-- ==== Defs.lean ====
def Pre_Kernel [hPre_group_range : Cert.Pre_group_range.Facts] (m : (ℓ : Loc Cert.Kernel.nD Cert.Kernel.τ Cert.Kernel.sig) → Buf (Elt Bits) ℓ) : Prop :=
  ∀ c : Dev Cert.Kernel.nD,
    (Cert.Pre_group_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_group_range : Cert.Pre_group_range.Facts] (m : (ℓ : Loc Cert.KernelIdeal.nD Cert.KernelIdeal.τ Cert.KernelIdeal.sig) → Buf (Elt Ideal) ℓ) : Prop :=
  ∀ c : Dev Cert.KernelIdeal.nD,
    (Cert.Pre_group_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_EvInKernel (m : (ℓ : Loc Cert.EvInKernel.nD Cert.EvInKernel.τ Cert.EvInKernel.sig) → Buf (Elt Bits) ℓ) : Prop :=
  True

def Pre_EvInKernelIdeal (m : (ℓ : Loc Cert.EvInKernelIdeal.nD Cert.EvInKernelIdeal.τ Cert.EvInKernelIdeal.sig) → Buf (Elt Ideal) ℓ) : Prop :=
  True

def Pre_EvInReferenceIdeal (m : (ℓ : Loc Cert.EvInReferenceIdeal.nD Cert.EvInReferenceIdeal.τ Cert.EvInReferenceIdeal.sig) → Buf (Elt Ideal) ℓ) : Prop :=
  True

def Pre_EvSmKernel (m : (ℓ : Loc Cert.EvSmKernel.nD Cert.EvSmKernel.τ Cert.EvSmKernel.sig) → Buf (Elt Bits) ℓ) : Prop :=
  True

def Pre_EvSmKernelIdeal (m : (ℓ : Loc Cert.EvSmKernelIdeal.nD Cert.EvSmKernelIdeal.τ Cert.EvSmKernelIdeal.sig) → Buf (Elt Ideal) ℓ) : Prop :=
  True

def Pre_EvSmReferenceIdeal (m : (ℓ : Loc Cert.EvSmReferenceIdeal.nD Cert.EvSmReferenceIdeal.τ Cert.EvSmReferenceIdeal.sig) → Buf (Elt Ideal) ℓ) : Prop :=
  True

def Pre_EvOutKernel (m : (ℓ : Loc Cert.EvOutKernel.nD Cert.EvOutKernel.τ Cert.EvOutKernel.sig) → Buf (Elt Bits) ℓ) : Prop :=
  True

def Pre_EvOutKernelIdeal (m : (ℓ : Loc Cert.EvOutKernelIdeal.nD Cert.EvOutKernelIdeal.τ Cert.EvOutKernelIdeal.sig) → Buf (Elt Ideal) ℓ) : Prop :=
  True

def Pre_EvOutReferenceIdeal (m : (ℓ : Loc Cert.EvOutReferenceIdeal.nD Cert.EvOutReferenceIdeal.τ Cert.EvOutReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def quiescent_Kernel [hKernel : Cert.Kernel.Facts] [hPre_group_range : Cert.Pre_group_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_group_range : Cert.Pre_group_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_EvInKernel [hEvInKernel : Cert.EvInKernel.Facts] : Prop :=
  ∀ (m : (ℓ : Loc Cert.EvInKernel.nD Cert.EvInKernel.τ Cert.EvInKernel.sig) → Buf (Elt Bits) ℓ) (g : Dev Cert.EvInKernel.nD → PrngReg), Pre_EvInKernel m →
    θ_run (Cert.EvInKernel.defs (F := Bits)) (onTc (τ := Cert.EvInKernel.τ) (Cert.EvInKernel.main (F := Bits))) ⟨m, fun _ => 0, g⟩ (fun r => (∀ c : Dev Cert.EvInKernel.nD,
      r.2.mem ((c.tc : Thread Cert.EvInKernel.nD Cert.EvInKernel.τ).loc Cert.EvInKernel.main_arg0) = m ((c.tc : Thread Cert.EvInKernel.nD Cert.EvInKernel.τ).loc Cert.EvInKernel.main_arg0)
      ∧ r.2.mem ((c.tc : Thread Cert.EvInKernel.nD Cert.EvInKernel.τ).loc Cert.EvInKernel.main_arg1) = m ((c.tc : Thread Cert.EvInKernel.nD Cert.EvInKernel.τ).loc Cert.EvInKernel.main_arg1))
      ∧ r.2.sem = fun _ => 0)

def quiescent_EvInKernelIdeal [hEvInKernelIdeal : Cert.EvInKernelIdeal.Facts] : Prop :=
  ∀ (m : (ℓ : Loc Cert.EvInKernelIdeal.nD Cert.EvInKernelIdeal.τ Cert.EvInKernelIdeal.sig) → Buf (Elt Ideal) ℓ) (g : Dev Cert.EvInKernelIdeal.nD → PrngReg), Pre_EvInKernelIdeal m →
    θ_run (Cert.EvInKernelIdeal.defs (F := Ideal)) (onTc (τ := Cert.EvInKernelIdeal.τ) (Cert.EvInKernelIdeal.main (F := Ideal))) ⟨m, fun _ => 0, g⟩ (fun r => (∀ c : Dev Cert.EvInKernelIdeal.nD,
      r.2.mem ((c.tc : Thread Cert.EvInKernelIdeal.nD Cert.EvInKernelIdeal.τ).loc Cert.EvInKernelIdeal.main_arg0) = m ((c.tc : Thread Cert.EvInKernelIdeal.nD Cert.EvInKernelIdeal.τ).loc Cert.EvInKernelIdeal.main_arg0)
      ∧ r.2.mem ((c.tc : Thread Cert.EvInKernelIdeal.nD Cert.EvInKernelIdeal.τ).loc Cert.EvInKernelIdeal.main_arg1) = m ((c.tc : Thread Cert.EvInKernelIdeal.nD Cert.EvInKernelIdeal.τ).loc Cert.EvInKernelIdeal.main_arg1))
      ∧ r.2.sem = fun _ => 0)

def quiescent_EvInReferenceIdeal [hEvInReferenceIdeal : Cert.EvInReferenceIdeal.Facts] : Prop :=
  ∀ (m : (ℓ : Loc Cert.EvInReferenceIdeal.nD Cert.EvInReferenceIdeal.τ Cert.EvInReferenceIdeal.sig) → Buf (Elt Ideal) ℓ) (g : Dev Cert.EvInReferenceIdeal.nD → PrngReg), Pre_EvInReferenceIdeal m →
    θ_run (Cert.EvInReferenceIdeal.defs (F := Ideal)) (onTc (τ := Cert.EvInReferenceIdeal.τ) (Cert.EvInReferenceIdeal.main (F := Ideal))) ⟨m, fun _ => 0, g⟩ (fun r => (∀ c : Dev Cert.EvInReferenceIdeal.nD,
      r.2.mem ((c.tc : Thread Cert.EvInReferenceIdeal.nD Cert.EvInReferenceIdeal.τ).loc Cert.EvInReferenceIdeal.main_arg0) = m ((c.tc : Thread Cert.EvInReferenceIdeal.nD Cert.EvInReferenceIdeal.τ).loc Cert.EvInReferenceIdeal.main_arg0)
      ∧ r.2.mem ((c.tc : Thread Cert.EvInReferenceIdeal.nD Cert.EvInReferenceIdeal.τ).loc Cert.EvInReferenceIdeal.main_arg1) = m ((c.tc : Thread Cert.EvInReferenceIdeal.nD Cert.EvInReferenceIdeal.τ).loc Cert.EvInReferenceIdeal.main_arg1))
      ∧ r.2.sem = fun _ => 0)

def quiescent_EvSmKernel [hEvSmKernel : Cert.EvSmKernel.Facts] : Prop :=
  ∀ (m : (ℓ : Loc Cert.EvSmKernel.nD Cert.EvSmKernel.τ Cert.EvSmKernel.sig) → Buf (Elt Bits) ℓ) (g : Dev Cert.EvSmKernel.nD → PrngReg), Pre_EvSmKernel m →
    θ_run (Cert.EvSmKernel.defs (F := Bits)) (onTc (τ := Cert.EvSmKernel.τ) (Cert.EvSmKernel.main (F := Bits))) ⟨m, fun _ => 0, g⟩ (fun r => (∀ c : Dev Cert.EvSmKernel.nD,
      r.2.mem ((c.tc : Thread Cert.EvSmKernel.nD Cert.EvSmKernel.τ).loc Cert.EvSmKernel.main_arg0) = m ((c.tc : Thread Cert.EvSmKernel.nD Cert.EvSmKernel.τ).loc Cert.EvSmKernel.main_arg0)
      ∧ r.2.mem ((c.tc : Thread Cert.EvSmKernel.nD Cert.EvSmKernel.τ).loc Cert.EvSmKernel.main_arg1) = m ((c.tc : Thread Cert.EvSmKernel.nD Cert.EvSmKernel.τ).loc Cert.EvSmKernel.main_arg1))
      ∧ r.2.sem = fun _ => 0)

def quiescent_EvSmKernelIdeal [hEvSmKernelIdeal : Cert.EvSmKernelIdeal.Facts] : Prop :=
  ∀ (m : (ℓ : Loc Cert.EvSmKernelIdeal.nD Cert.EvSmKernelIdeal.τ Cert.EvSmKernelIdeal.sig) → Buf (Elt Ideal) ℓ) (g : Dev Cert.EvSmKernelIdeal.nD → PrngReg), Pre_EvSmKernelIdeal m →
    θ_run (Cert.EvSmKernelIdeal.defs (F := Ideal)) (onTc (τ := Cert.EvSmKernelIdeal.τ) (Cert.EvSmKernelIdeal.main (F := Ideal))) ⟨m, fun _ => 0, g⟩ (fun r => (∀ c : Dev Cert.EvSmKernelIdeal.nD,
      r.2.mem ((c.tc : Thread Cert.EvSmKernelIdeal.nD Cert.EvSmKernelIdeal.τ).loc Cert.EvSmKernelIdeal.main_arg0) = m ((c.tc : Thread Cert.EvSmKernelIdeal.nD Cert.EvSmKernelIdeal.τ).loc Cert.EvSmKernelIdeal.main_arg0)
      ∧ r.2.mem ((c.tc : Thread Cert.EvSmKernelIdeal.nD Cert.EvSmKernelIdeal.τ).loc Cert.EvSmKernelIdeal.main_arg1) = m ((c.tc : Thread Cert.EvSmKernelIdeal.nD Cert.EvSmKernelIdeal.τ).loc Cert.EvSmKernelIdeal.main_arg1))
      ∧ r.2.sem = fun _ => 0)

def quiescent_EvSmReferenceIdeal [hEvSmReferenceIdeal : Cert.EvSmReferenceIdeal.Facts] : Prop :=
  ∀ (m : (ℓ : Loc Cert.EvSmReferenceIdeal.nD Cert.EvSmReferenceIdeal.τ Cert.EvSmReferenceIdeal.sig) → Buf (Elt Ideal) ℓ) (g : Dev Cert.EvSmReferenceIdeal.nD → PrngReg), Pre_EvSmReferenceIdeal m →
    θ_run (Cert.EvSmReferenceIdeal.defs (F := Ideal)) (onTc (τ := Cert.EvSmReferenceIdeal.τ) (Cert.EvSmReferenceIdeal.main (F := Ideal))) ⟨m, fun _ => 0, g⟩ (fun r => (∀ c : Dev Cert.EvSmReferenceIdeal.nD,
      r.2.mem ((c.tc : Thread Cert.EvSmReferenceIdeal.nD Cert.EvSmReferenceIdeal.τ).loc Cert.EvSmReferenceIdeal.main_arg0) = m ((c.tc : Thread Cert.EvSmReferenceIdeal.nD Cert.EvSmReferenceIdeal.τ).loc Cert.EvSmReferenceIdeal.main_arg0)
      ∧ r.2.mem ((c.tc : Thread Cert.EvSmReferenceIdeal.nD Cert.EvSmReferenceIdeal.τ).loc Cert.EvSmReferenceIdeal.main_arg1) = m ((c.tc : Thread Cert.EvSmReferenceIdeal.nD Cert.EvSmReferenceIdeal.τ).loc Cert.EvSmReferenceIdeal.main_arg1))
      ∧ r.2.sem = fun _ => 0)

def quiescent_EvOutKernel [hEvOutKernel : Cert.EvOutKernel.Facts] : Prop :=
  ∀ (m : (ℓ : Loc Cert.EvOutKernel.nD Cert.EvOutKernel.τ Cert.EvOutKernel.sig) → Buf (Elt Bits) ℓ) (g : Dev Cert.EvOutKernel.nD → PrngReg), Pre_EvOutKernel m →
    θ_run (Cert.EvOutKernel.defs (F := Bits)) (onTc (τ := Cert.EvOutKernel.τ) (Cert.EvOutKernel.main (F := Bits))) ⟨m, fun _ => 0, g⟩ (fun r => (∀ c : Dev Cert.EvOutKernel.nD,
      r.2.mem ((c.tc : Thread Cert.EvOutKernel.nD Cert.EvOutKernel.τ).loc Cert.EvOutKernel.main_arg0) = m ((c.tc : Thread Cert.EvOutKernel.nD Cert.EvOutKernel.τ).loc Cert.EvOutKernel.main_arg0)
      ∧ r.2.mem ((c.tc : Thread Cert.EvOutKernel.nD Cert.EvOutKernel.τ).loc Cert.EvOutKernel.main_arg1) = m ((c.tc : Thread Cert.EvOutKernel.nD Cert.EvOutKernel.τ).loc Cert.EvOutKernel.main_arg1)
      ∧ r.2.mem ((c.tc : Thread Cert.EvOutKernel.nD Cert.EvOutKernel.τ).loc Cert.EvOutKernel.main_arg2) = m ((c.tc : Thread Cert.EvOutKernel.nD Cert.EvOutKernel.τ).loc Cert.EvOutKernel.main_arg2))
      ∧ r.2.sem = fun _ => 0)

def quiescent_EvOutKernelIdeal [hEvOutKernelIdeal : Cert.EvOutKernelIdeal.Facts] : Prop :=
  ∀ (m : (ℓ : Loc Cert.EvOutKernelIdeal.nD Cert.EvOutKernelIdeal.τ Cert.EvOutKernelIdeal.sig) → Buf (Elt Ideal) ℓ) (g : Dev Cert.EvOutKernelIdeal.nD → PrngReg), Pre_EvOutKernelIdeal m →
    θ_run (Cert.EvOutKernelIdeal.defs (F := Ideal)) (onTc (τ := Cert.EvOutKernelIdeal.τ) (Cert.EvOutKernelIdeal.main (F := Ideal))) ⟨m, fun _ => 0, g⟩ (fun r => (∀ c : Dev Cert.EvOutKernelIdeal.nD,
      r.2.mem ((c.tc : Thread Cert.EvOutKernelIdeal.nD Cert.EvOutKernelIdeal.τ).loc Cert.EvOutKernelIdeal.main_arg0) = m ((c.tc : Thread Cert.EvOutKernelIdeal.nD Cert.EvOutKernelIdeal.τ).loc Cert.EvOutKernelIdeal.main_arg0)
      ∧ r.2.mem ((c.tc : Thread Cert.EvOutKernelIdeal.nD Cert.EvOutKernelIdeal.τ).loc Cert.EvOutKernelIdeal.main_arg1) = m ((c.tc : Thread Cert.EvOutKernelIdeal.nD Cert.EvOutKernelIdeal.τ).loc Cert.EvOutKernelIdeal.main_arg1)
      ∧ r.2.mem ((c.tc : Thread Cert.EvOutKernelIdeal.nD Cert.EvOutKernelIdeal.τ).loc Cert.EvOutKernelIdeal.main_arg2) = m ((c.tc : Thread Cert.EvOutKernelIdeal.nD Cert.EvOutKernelIdeal.τ).loc Cert.EvOutKernelIdeal.main_arg2))
      ∧ r.2.sem = fun _ => 0)

def quiescent_EvOutReferenceIdeal [hEvOutReferenceIdeal : Cert.EvOutReferenceIdeal.Facts] : Prop :=
  ∀ (m : (ℓ : Loc Cert.EvOutReferenceIdeal.nD Cert.EvOutReferenceIdeal.τ Cert.EvOutReferenceIdeal.sig) → Buf (Elt Ideal) ℓ) (g : Dev Cert.EvOutReferenceIdeal.nD → PrngReg), Pre_EvOutReferenceIdeal m →
    θ_run (Cert.EvOutReferenceIdeal.defs (F := Ideal)) (onTc (τ := Cert.EvOutReferenceIdeal.τ) (Cert.EvOutReferenceIdeal.main (F := Ideal))) ⟨m, fun _ => 0, g⟩ (fun r => (∀ c : Dev Cert.EvOutReferenceIdeal.nD,
      r.2.mem ((c.tc : Thread Cert.EvOutReferenceIdeal.nD Cert.EvOutReferenceIdeal.τ).loc Cert.EvOutReferenceIdeal.main_arg0) = m ((c.tc : Thread Cert.EvOutReferenceIdeal.nD Cert.EvOutReferenceIdeal.τ).loc Cert.EvOutReferenceIdeal.main_arg0)
      ∧ r.2.mem ((c.tc : Thread Cert.EvOutReferenceIdeal.nD Cert.EvOutReferenceIdeal.τ).loc Cert.EvOutReferenceIdeal.main_arg1) = m ((c.tc : Thread Cert.EvOutReferenceIdeal.nD Cert.EvOutReferenceIdeal.τ).loc Cert.EvOutReferenceIdeal.main_arg1)
      ∧ r.2.mem ((c.tc : Thread Cert.EvOutReferenceIdeal.nD Cert.EvOutReferenceIdeal.τ).loc Cert.EvOutReferenceIdeal.main_arg2) = m ((c.tc : Thread Cert.EvOutReferenceIdeal.nD Cert.EvOutReferenceIdeal.τ).loc Cert.EvOutReferenceIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v4)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v4) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v3) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v6)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)) →
    ∃ (v0 : (c : Dev Cert.FinalKernelIdeal.nD) → Buf (Elt Ideal) ((c.tc : Thread Cert.FinalKernelIdeal.nD Cert.FinalKernelIdeal.τ).loc Cert.FinalKernelIdeal.main_v6)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v6) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v15) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def preserves_EvInKernel_EvInKernelIdeal : Prop :=
  True

def algebraic_EvInKernelIdeal_EvInReferenceIdeal [hEvInKernelIdeal : Cert.EvInKernelIdeal.Facts] [hEvInReferenceIdeal : Cert.EvInReferenceIdeal.Facts] : Prop :=
  ∀ (m : (ℓ : Loc Cert.EvInKernelIdeal.nD Cert.EvInKernelIdeal.τ Cert.EvInKernelIdeal.sig) → Buf (Elt Ideal) ℓ) (g : Dev Cert.EvInKernelIdeal.nD → PrngReg)
    (m' : (ℓ : Loc Cert.EvInReferenceIdeal.nD Cert.EvInReferenceIdeal.τ Cert.EvInReferenceIdeal.sig) → Buf (Elt Ideal) ℓ) (g' : Dev Cert.EvInReferenceIdeal.nD → PrngReg), Pre_EvInKernelIdeal m →
    (∀ c : Dev Cert.EvInKernelIdeal.nD,
      m' ((c.tc : Thread Cert.EvInReferenceIdeal.nD Cert.EvInReferenceIdeal.τ).loc Cert.EvInReferenceIdeal.main_arg0) = m ((c.tc : Thread Cert.EvInKernelIdeal.nD Cert.EvInKernelIdeal.τ).loc Cert.EvInKernelIdeal.main_arg0)
      ∧ m' ((c.tc : Thread Cert.EvInReferenceIdeal.nD Cert.EvInReferenceIdeal.τ).loc Cert.EvInReferenceIdeal.main_arg1) = m ((c.tc : Thread Cert.EvInKernelIdeal.nD Cert.EvInKernelIdeal.τ).loc Cert.EvInKernelIdeal.main_arg1)) →
    ∃ (v0 : (c : Dev Cert.EvInKernelIdeal.nD) → Buf (Elt Ideal) ((c.tc : Thread Cert.EvInKernelIdeal.nD Cert.EvInKernelIdeal.τ).loc Cert.EvInKernelIdeal.main_v7)),
      θ_run (Cert.EvInKernelIdeal.defs (F := Ideal)) (onTc (τ := Cert.EvInKernelIdeal.τ) (Cert.EvInKernelIdeal.main (F := Ideal))) ⟨m, fun _ => 0, g⟩ (fun r => ∀ c : Dev Cert.EvInKernelIdeal.nD,
          r.2.mem ((c.tc : Thread Cert.EvInKernelIdeal.nD Cert.EvInKernelIdeal.τ).loc Cert.EvInKernelIdeal.main_v7) = v0 c
          ∧ r.2.mem ((c.tc : Thread Cert.EvInKernelIdeal.nD Cert.EvInKernelIdeal.τ).loc Cert.EvInKernelIdeal.main_arg0) = m ((c.tc : Thread Cert.EvInKernelIdeal.nD Cert.EvInKernelIdeal.τ).loc Cert.EvInKernelIdeal.main_arg0)
          ∧ r.2.mem ((c.tc : Thread Cert.EvInKernelIdeal.nD Cert.EvInKernelIdeal.τ).loc Cert.EvInKernelIdeal.main_arg1) = m ((c.tc : Thread Cert.EvInKernelIdeal.nD Cert.EvInKernelIdeal.τ).loc Cert.EvInKernelIdeal.main_arg1))
      ∧ θ_run (Cert.EvInReferenceIdeal.defs (F := Ideal)) (onTc (τ := Cert.EvInReferenceIdeal.τ) (Cert.EvInReferenceIdeal.main (F := Ideal))) ⟨m', fun _ => 0, g'⟩ (fun r => ∀ c : Dev Cert.EvInReferenceIdeal.nD,
          r.2.mem ((c.tc : Thread Cert.EvInReferenceIdeal.nD Cert.EvInReferenceIdeal.τ).loc Cert.EvInReferenceIdeal.main_v6) = v0 c
          ∧ r.2.mem ((c.tc : Thread Cert.EvInReferenceIdeal.nD Cert.EvInReferenceIdeal.τ).loc Cert.EvInReferenceIdeal.main_arg0) = m' ((c.tc : Thread Cert.EvInReferenceIdeal.nD Cert.EvInReferenceIdeal.τ).loc Cert.EvInReferenceIdeal.main_arg0)
          ∧ r.2.mem ((c.tc : Thread Cert.EvInReferenceIdeal.nD Cert.EvInReferenceIdeal.τ).loc Cert.EvInReferenceIdeal.main_arg1) = m' ((c.tc : Thread Cert.EvInReferenceIdeal.nD Cert.EvInReferenceIdeal.τ).loc Cert.EvInReferenceIdeal.main_arg1))

def preserves_EvSmKernel_EvSmKernelIdeal : Prop :=
  True

def algebraic_EvSmKernelIdeal_EvSmReferenceIdeal [hEvSmKernelIdeal : Cert.EvSmKernelIdeal.Facts] [hEvSmReferenceIdeal : Cert.EvSmReferenceIdeal.Facts] : Prop :=
  ∀ (m : (ℓ : Loc Cert.EvSmKernelIdeal.nD Cert.EvSmKernelIdeal.τ Cert.EvSmKernelIdeal.sig) → Buf (Elt Ideal) ℓ) (g : Dev Cert.EvSmKernelIdeal.nD → PrngReg)
    (m' : (ℓ : Loc Cert.EvSmReferenceIdeal.nD Cert.EvSmReferenceIdeal.τ Cert.EvSmReferenceIdeal.sig) → Buf (Elt Ideal) ℓ) (g' : Dev Cert.EvSmReferenceIdeal.nD → PrngReg), Pre_EvSmKernelIdeal m →
    (∀ c : Dev Cert.EvSmKernelIdeal.nD,
      m' ((c.tc : Thread Cert.EvSmReferenceIdeal.nD Cert.EvSmReferenceIdeal.τ).loc Cert.EvSmReferenceIdeal.main_arg0) = m ((c.tc : Thread Cert.EvSmKernelIdeal.nD Cert.EvSmKernelIdeal.τ).loc Cert.EvSmKernelIdeal.main_arg0)
      ∧ m' ((c.tc : Thread Cert.EvSmReferenceIdeal.nD Cert.EvSmReferenceIdeal.τ).loc Cert.EvSmReferenceIdeal.main_arg1) = m ((c.tc : Thread Cert.EvSmKernelIdeal.nD Cert.EvSmKernelIdeal.τ).loc Cert.EvSmKernelIdeal.main_arg1)) →
    ∃ (v0 : (c : Dev Cert.EvSmKernelIdeal.nD) → Buf (Elt Ideal) ((c.tc : Thread Cert.EvSmKernelIdeal.nD Cert.EvSmKernelIdeal.τ).loc Cert.EvSmKernelIdeal.main_v8)),
      θ_run (Cert.EvSmKernelIdeal.defs (F := Ideal)) (onTc (τ := Cert.EvSmKernelIdeal.τ) (Cert.EvSmKernelIdeal.main (F := Ideal))) ⟨m, fun _ => 0, g⟩ (fun r => ∀ c : Dev Cert.EvSmKernelIdeal.nD,
          r.2.mem ((c.tc : Thread Cert.EvSmKernelIdeal.nD Cert.EvSmKernelIdeal.τ).loc Cert.EvSmKernelIdeal.main_v8) = v0 c
          ∧ r.2.mem ((c.tc : Thread Cert.EvSmKernelIdeal.nD Cert.EvSmKernelIdeal.τ).loc Cert.EvSmKernelIdeal.main_arg0) = m ((c.tc : Thread Cert.EvSmKernelIdeal.nD Cert.EvSmKernelIdeal.τ).loc Cert.EvSmKernelIdeal.main_arg0)
          ∧ r.2.mem ((c.tc : Thread Cert.EvSmKernelIdeal.nD Cert.EvSmKernelIdeal.τ).loc Cert.EvSmKernelIdeal.main_arg1) = m ((c.tc : Thread Cert.EvSmKernelIdeal.nD Cert.EvSmKernelIdeal.τ).loc Cert.EvSmKernelIdeal.main_arg1))
      ∧ θ_run (Cert.EvSmReferenceIdeal.defs (F := Ideal)) (onTc (τ := Cert.EvSmReferenceIdeal.τ) (Cert.EvSmReferenceIdeal.main (F := Ideal))) ⟨m', fun _ => 0, g'⟩ (fun r => ∀ c : Dev Cert.EvSmReferenceIdeal.nD,
          r.2.mem ((c.tc : Thread Cert.EvSmReferenceIdeal.nD Cert.EvSmReferenceIdeal.τ).loc Cert.EvSmReferenceIdeal.main_v5) = v0 c
          ∧ r.2.mem ((c.tc : Thread Cert.EvSmReferenceIdeal.nD Cert.EvSmReferenceIdeal.τ).loc Cert.EvSmReferenceIdeal.main_arg0) = m' ((c.tc : Thread Cert.EvSmReferenceIdeal.nD Cert.EvSmReferenceIdeal.τ).loc Cert.EvSmReferenceIdeal.main_arg0)
          ∧ r.2.mem ((c.tc : Thread Cert.EvSmReferenceIdeal.nD Cert.EvSmReferenceIdeal.τ).loc Cert.EvSmReferenceIdeal.main_arg1) = m' ((c.tc : Thread Cert.EvSmReferenceIdeal.nD Cert.EvSmReferenceIdeal.τ).loc Cert.EvSmReferenceIdeal.main_arg1))

def preserves_EvOutKernel_EvOutKernelIdeal : Prop :=
  True

def algebraic_EvOutKernelIdeal_EvOutReferenceIdeal [hEvOutKernelIdeal : Cert.EvOutKernelIdeal.Facts] [hEvOutReferenceIdeal : Cert.EvOutReferenceIdeal.Facts] : Prop :=
  ∀ (m : (ℓ : Loc Cert.EvOutKernelIdeal.nD Cert.EvOutKernelIdeal.τ Cert.EvOutKernelIdeal.sig) → Buf (Elt Ideal) ℓ) (g : Dev Cert.EvOutKernelIdeal.nD → PrngReg)
    (m' : (ℓ : Loc Cert.EvOutReferenceIdeal.nD Cert.EvOutReferenceIdeal.τ Cert.EvOutReferenceIdeal.sig) → Buf (Elt Ideal) ℓ) (g' : Dev Cert.EvOutReferenceIdeal.nD → PrngReg), Pre_EvOutKernelIdeal m →
    (∀ c : Dev Cert.EvOutKernelIdeal.nD,
      m' ((c.tc : Thread Cert.EvOutReferenceIdeal.nD Cert.EvOutReferenceIdeal.τ).loc Cert.EvOutReferenceIdeal.main_arg0) = m ((c.tc : Thread Cert.EvOutKernelIdeal.nD Cert.EvOutKernelIdeal.τ).loc Cert.EvOutKernelIdeal.main_arg0)
      ∧ m' ((c.tc : Thread Cert.EvOutReferenceIdeal.nD Cert.EvOutReferenceIdeal.τ).loc Cert.EvOutReferenceIdeal.main_arg1) = m ((c.tc : Thread Cert.EvOutKernelIdeal.nD Cert.EvOutKernelIdeal.τ).loc Cert.EvOutKernelIdeal.main_arg1)
      ∧ m' ((c.tc : Thread Cert.EvOutReferenceIdeal.nD Cert.EvOutReferenceIdeal.τ).loc Cert.EvOutReferenceIdeal.main_arg2) = m ((c.tc : Thread Cert.EvOutKernelIdeal.nD Cert.EvOutKernelIdeal.τ).loc Cert.EvOutKernelIdeal.main_arg2)) →
    ∃ (v0 : (c : Dev Cert.EvOutKernelIdeal.nD) → Buf (Elt Ideal) ((c.tc : Thread Cert.EvOutKernelIdeal.nD Cert.EvOutKernelIdeal.τ).loc Cert.EvOutKernelIdeal.main_v6)),
      θ_run (Cert.EvOutKernelIdeal.defs (F := Ideal)) (onTc (τ := Cert.EvOutKernelIdeal.τ) (Cert.EvOutKernelIdeal.main (F := Ideal))) ⟨m, fun _ => 0, g⟩ (fun r => ∀ c : Dev Cert.EvOutKernelIdeal.nD,
          r.2.mem ((c.tc : Thread Cert.EvOutKernelIdeal.nD Cert.EvOutKernelIdeal.τ).loc Cert.EvOutKernelIdeal.main_v6) = v0 c
          ∧ r.2.mem ((c.tc : Thread Cert.EvOutKernelIdeal.nD Cert.EvOutKernelIdeal.τ).loc Cert.EvOutKernelIdeal.main_arg0) = m ((c.tc : Thread Cert.EvOutKernelIdeal.nD Cert.EvOutKernelIdeal.τ).loc Cert.EvOutKernelIdeal.main_arg0)
          ∧ r.2.mem ((c.tc : Thread Cert.EvOutKernelIdeal.nD Cert.EvOutKernelIdeal.τ).loc Cert.EvOutKernelIdeal.main_arg1) = m ((c.tc : Thread Cert.EvOutKernelIdeal.nD Cert.EvOutKernelIdeal.τ).loc Cert.EvOutKernelIdeal.main_arg1)
          ∧ r.2.mem ((c.tc : Thread Cert.EvOutKernelIdeal.nD Cert.EvOutKernelIdeal.τ).loc Cert.EvOutKernelIdeal.main_arg2) = m ((c.tc : Thread Cert.EvOutKernelIdeal.nD Cert.EvOutKernelIdeal.τ).loc Cert.EvOutKernelIdeal.main_arg2))
      ∧ θ_run (Cert.EvOutReferenceIdeal.defs (F := Ideal)) (onTc (τ := Cert.EvOutReferenceIdeal.τ) (Cert.EvOutReferenceIdeal.main (F := Ideal))) ⟨m', fun _ => 0, g'⟩ (fun r => ∀ c : Dev Cert.EvOutReferenceIdeal.nD,
          r.2.mem ((c.tc : Thread Cert.EvOutReferenceIdeal.nD Cert.EvOutReferenceIdeal.τ).loc Cert.EvOutReferenceIdeal.main_v3) = v0 c
          ∧ r.2.mem ((c.tc : Thread Cert.EvOutReferenceIdeal.nD Cert.EvOutReferenceIdeal.τ).loc Cert.EvOutReferenceIdeal.main_arg0) = m' ((c.tc : Thread Cert.EvOutReferenceIdeal.nD Cert.EvOutReferenceIdeal.τ).loc Cert.EvOutReferenceIdeal.main_arg0)
          ∧ r.2.mem ((c.tc : Thread Cert.EvOutReferenceIdeal.nD Cert.EvOutReferenceIdeal.τ).loc Cert.EvOutReferenceIdeal.main_arg1) = m' ((c.tc : Thread Cert.EvOutReferenceIdeal.nD Cert.EvOutReferenceIdeal.τ).loc Cert.EvOutReferenceIdeal.main_arg1)
          ∧ r.2.mem ((c.tc : Thread Cert.EvOutReferenceIdeal.nD Cert.EvOutReferenceIdeal.τ).loc Cert.EvOutReferenceIdeal.main_arg2) = m' ((c.tc : Thread Cert.EvOutReferenceIdeal.nD Cert.EvOutReferenceIdeal.τ).loc Cert.EvOutReferenceIdeal.main_arg2))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v10)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v10) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v17) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_FirstKernel_FirstKernelIdeal : Prop :=
  True

def algebraic_FirstKernelIdeal_FirstReferenceIdeal [hFirstKernelIdeal : Cert.FirstKernelIdeal.Facts] [hFirstReferenceIdeal : Cert.FirstReferenceIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)) →
    ∃ (v0 : (c : Dev Cert.FirstKernelIdeal.nD) → Buf (Elt Ideal) ((c.tc : Thread Cert.FirstKernelIdeal.nD Cert.FirstKernelIdeal.τ).loc Cert.FirstKernelIdeal.main_v2_0)) (v1 : (c : Dev Cert.FirstKernelIdeal.nD) → Buf (Elt Ideal) ((c.tc : Thread Cert.FirstKernelIdeal.nD Cert.FirstKernelIdeal.τ).loc Cert.FirstKernelIdeal.main_v2_1)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v2_0) = v0 c
          ∧ r.2.mem ((c.tc : Thread Cert.FirstKernelIdeal.nD Cert.FirstKernelIdeal.τ).loc Cert.FirstKernelIdeal.main_v2_1) = v1 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v17) = v0 c
          ∧ r.2.mem ((c.tc : Thread Cert.FirstReferenceIdeal.nD Cert.FirstReferenceIdeal.τ).loc Cert.FirstReferenceIdeal.main_v20) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hFinalKernel : Cert.FinalKernel.Facts) (hFinalKernelIdeal : Cert.FinalKernelIdeal.Facts) (hFinalReferenceIdeal : Cert.FinalReferenceIdeal.Facts) (hEvInKernel : Cert.EvInKernel.Facts) (hEvInKernelIdeal : Cert.EvInKernelIdeal.Facts) (hEvInReferenceIdeal : Cert.EvInReferenceIdeal.Facts) (hEvSmKernel : Cert.EvSmKernel.Facts) (hEvSmKernelIdeal : Cert.EvSmKernelIdeal.Facts) (hEvSmReferenceIdeal : Cert.EvSmReferenceIdeal.Facts) (hEvOutKernel : Cert.EvOutKernel.Facts) (hEvOutKernelIdeal : Cert.EvOutKernelIdeal.Facts) (hEvOutReferenceIdeal : Cert.EvOutReferenceIdeal.Facts) (hGateKernel : Cert.GateKernel.Facts) (hGateKernelIdeal : Cert.GateKernelIdeal.Facts) (hGateReferenceIdeal : Cert.GateReferenceIdeal.Facts) (hFirstKernel : Cert.FirstKernel.Facts) (hFirstKernelIdeal : Cert.FirstKernelIdeal.Facts) (hFirstReferenceIdeal : Cert.FirstReferenceIdeal.Facts) (hPre_group_range : Cert.Pre_group_range.Facts) (hPre_routed : Cert.Pre_routed.Facts),
    quiescent_Kernel (hKernel := hKernel) (hPre_group_range := hPre_group_range)
    ∧ quiescent_KernelIdeal (hKernelIdeal := hKernelIdeal) (hPre_group_range := hPre_group_range)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ quiescent_EvInKernel (hEvInKernel := hEvInKernel)
    ∧ quiescent_EvInKernelIdeal (hEvInKernelIdeal := hEvInKernelIdeal)
    ∧ quiescent_EvInReferenceIdeal (hEvInReferenceIdeal := hEvInReferenceIdeal)
    ∧ quiescent_EvSmKernel (hEvSmKernel := hEvSmKernel)
    ∧ quiescent_EvSmKernelIdeal (hEvSmKernelIdeal := hEvSmKernelIdeal)
    ∧ quiescent_EvSmReferenceIdeal (hEvSmReferenceIdeal := hEvSmReferenceIdeal)
    ∧ quiescent_EvOutKernel (hEvOutKernel := hEvOutKernel)
    ∧ quiescent_EvOutKernelIdeal (hEvOutKernelIdeal := hEvOutKernelIdeal)
    ∧ quiescent_EvOutReferenceIdeal (hEvOutReferenceIdeal := hEvOutReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_FirstKernel (hFirstKernel := hFirstKernel)
    ∧ quiescent_FirstKernelIdeal (hFirstKernelIdeal := hFirstKernelIdeal)
    ∧ quiescent_FirstReferenceIdeal (hFirstReferenceIdeal := hFirstReferenceIdeal)
    ∧ preserves_Kernel_KernelIdeal
    ∧ algebraic_KernelIdeal_ReferenceIdeal_pre_routed (hKernelIdeal := hKernelIdeal) (hReferenceIdeal := hReferenceIdeal) (hPre_routed := hPre_routed)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_FinalKernel_FinalKernelIdeal
    ∧ algebraic_FinalKernelIdeal_FinalReferenceIdeal (hFinalKernelIdeal := hFinalKernelIdeal) (hFinalReferenceIdeal := hFinalReferenceIdeal)
    ∧ preserves_EvInKernel_EvInKernelIdeal
    ∧ algebraic_EvInKernelIdeal_EvInReferenceIdeal (hEvInKernelIdeal := hEvInKernelIdeal) (hEvInReferenceIdeal := hEvInReferenceIdeal)
    ∧ preserves_EvSmKernel_EvSmKernelIdeal
    ∧ algebraic_EvSmKernelIdeal_EvSmReferenceIdeal (hEvSmKernelIdeal := hEvSmKernelIdeal) (hEvSmReferenceIdeal := hEvSmReferenceIdeal)
    ∧ preserves_EvOutKernel_EvOutKernelIdeal
    ∧ algebraic_EvOutKernelIdeal_EvOutReferenceIdeal (hEvOutKernelIdeal := hEvOutKernelIdeal) (hEvOutReferenceIdeal := hEvOutReferenceIdeal)
    ∧ preserves_GateKernel_GateKernelIdeal
    ∧ algebraic_GateKernelIdeal_GateReferenceIdeal (hGateKernelIdeal := hGateKernelIdeal) (hGateReferenceIdeal := hGateReferenceIdeal)
    ∧ preserves_FirstKernel_FirstKernelIdeal
    ∧ algebraic_FirstKernelIdeal_FirstReferenceIdeal (hFirstKernelIdeal := hFirstKernelIdeal) (hFirstReferenceIdeal := hFirstReferenceIdeal)
-- ==== Pre_group_range.lean ====
abbrev S36 : Shape := ⟨1, ![36]⟩
abbrev S18432x4096 : Shape := ⟨2, ![18432, 4096]⟩
abbrev S18432x4x8 : Shape := ⟨3, ![18432, 4, 8]⟩
abbrev S4x8x4096x256 : Shape := ⟨4, ![4, 8, 4096, 256]⟩
abbrev S4x8x256x4096 : Shape := ⟨4, ![4, 8, 256, 4096]⟩
abbrev S_ : Shape := ⟨0, ![]⟩

class Facts : Prop where
  bcast_S_S36 : S_.BroadcastsInDim S36 (![] : Fin 0 → Fin S36.rank)

variable [Facts]

def fn {F : FTy → Type} [FloatOps F] (main_arg0 : IVec S36 32) (main_arg1 : FVec F S18432x4096 .f32) (main_arg2 : FVec F S18432x4x8 .f32) (main_arg3 : FVec F S4x8x4096x256 .f32) (main_arg4 : FVec F S4x8x4096x256 .f32) (main_arg5 : FVec F S4x8x256x4096 .f32) : IVec S36 1 :=
  let main_c : IVec S_ 32 := constantI S_ 32 0#32
  let main_v0 : IVec S36 32 := broadcastInDim S36 ![] bcast_S_S36 main_c
  let main_v1 : IVec S36 1 := cmpi .sge main_arg0 main_v0
  let main_c_0 : IVec S_ 32 := constantI S_ 32 4#32
  let main_v2 : IVec S36 32 := broadcastInDim S36 ![] bcast_S_S36 main_c_0
  let main_v3 : IVec S36 1 := cmpi .slt main_arg0 main_v2
  let main_v4 : IVec S36 1 := andi main_v1 main_v3
  main_v4
-- ==== Pre_routed.lean ====
abbrev S36 : Shape := ⟨1, ![36]⟩
abbrev S18432x4096 : Shape := ⟨2, ![18432, 4096]⟩
abbrev S18432x4x8 : Shape := ⟨3, ![18432, 4, 8]⟩
abbrev S4x8x4096x256 : Shape := ⟨4, ![4, 8, 4096, 256]⟩
abbrev S4x8x256x4096 : Shape := ⟨4, ![4, 8, 256, 4096]⟩
abbrev S36x512x4x8 : Shape := ⟨4, ![36, 512, 4, 8]⟩
abbrev S_ : Shape := ⟨0, ![]⟩

class Facts : Prop where
  bcast_S36_S36x512x4x8_0 : S36.BroadcastsInDim S36x512x4x8 (![0] : Fin 1 → Fin S36x512x4x8.rank)
  bcast_S_S36x512x4x8 : S_.BroadcastsInDim S36x512x4x8 (![] : Fin 0 → Fin S36x512x4x8.rank)
  shapeCasts_S18432x4x8_S36x512x4x8 : S18432x4x8.ShapeCasts S36x512x4x8

variable [Facts]

def fn {F : FTy → Type} [FloatOps F] (main_arg0 : IVec S36 32) (main_arg1 : FVec F S18432x4096 .f32) (main_arg2 : FVec F S18432x4x8 .f32) (main_arg3 : FVec F S4x8x4096x256 .f32) (main_arg4 : FVec F S4x8x4096x256 .f32) (main_arg5 : FVec F S4x8x256x4096 .f32) : IVec S36x512x4x8 1 :=
  let main_v0 : IVec S36x512x4x8 32 := broadcastInDim S36x512x4x8 ![0] bcast_S36_S36x512x4x8_0 main_arg0
  let main_v1 : IVec S36x512x4x8 32 := iotaInDim S36x512x4x8 32 2
  let main_v2 : IVec S36x512x4x8 1 := cmpi .eq main_v1 main_v0
  let main_c : IVec S_ 32 := constantI S_ 32 0#32
  let main_v3 : IVec S36x512x4x8 32 := broadcastInDim S36x512x4x8 ![] bcast_S_S36x512x4x8 main_c
  let main_v4 : IVec S36x512x4x8 1 := cmpi .sge main_v0 main_v3
  let main_c_0 : IVec S_ 32 := constantI S_ 32 4#32
  let main_v5 : IVec S36x512x4x8 32 := broadcastInDim S36x512x4x8 ![] bcast_S_S36x512x4x8 main_c_0
  let main_v6 : IVec S36x512x4x8 1 := cmpi .slt main_v0 main_v5
  let main_v7 : IVec S36x512x4x8 1 := andi main_v4 main_v6
  let main_v8 : FVec F S36x512x4x8 .f32 := shapeCast S36x512x4x8 main_arg2 shapeCasts_S18432x4x8_S36x512x4x8
  let main_cst : FVec F S_ .f32 := constant S_ .f32 0x00000000#32
  let main_v9 : FVec F S36x512x4x8 .f32 := broadcastInDim S36x512x4x8 ![] bcast_S_S36x512x4x8 main_cst
  let main_v10 : IVec S36x512x4x8 1 := cmpf .oeq main_v8 main_v9
  let main_v11 : IVec S36x512x4x8 1 := ori main_v2 main_v10
  let main_v12 : IVec S36x512x4x8 1 := andi main_v7 main_v11
  main_v12
-- ==== Kernel.lean ====
abbrev S36 : Shape := ⟨1, ![36]⟩
abbrev S18432x4096 : Shape := ⟨2, ![18432, 4096]⟩
abbrev S18432x4x8 : Shape := ⟨3, ![18432, 4, 8]⟩
abbrev S4x8x4096x256 : Shape := ⟨4, ![4, 8, 4096, 256]⟩
abbrev S4x8x256x4096 : Shape := ⟨4, ![4, 8, 256, 4096]⟩
abbrev S4x8x4096x512 : Shape := ⟨4, ![4, 8, 4096, 512]⟩
abbrev S32x4096x512 : Shape := ⟨3, ![32, 4096, 512]⟩
abbrev S18432x32 : Shape := ⟨2, ![18432, 32]⟩
abbrev S_ : Shape := ⟨0, ![]⟩
abbrev S18432x128 : Shape := ⟨2, ![18432, 128]⟩
abbrev S32x256x4096 : Shape := ⟨3, ![32, 256, 4096]⟩
abbrev S512x4096 : Shape := ⟨2, ![512, 4096]⟩
abbrev S512x128 : Shape := ⟨2, ![512, 128]⟩
abbrev S1x4096x512 : Shape := ⟨3, ![1, 4096, 512]⟩
abbrev S1 : Shape := ⟨1, ![1]⟩
abbrev S1x256x4096 : Shape := ⟨3, ![1, 256, 4096]⟩
abbrev S4096x512 : Shape := ⟨2, ![4096, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S256x4096 : Shape := ⟨2, ![256, 4096]⟩

abbrev nBuf : Space → Nat
  | .hbm => 16
  | .vmem => 11
  | .smem => 1
  | _ => 0

abbrev bufTy : (tb : Table) → Fin (tcTables nBuf tb) → BufTy
  | .hbm, ⟨0, _⟩ => ⟨S18432x4096, .f32⟩
  | .hbm, ⟨1, _⟩ => ⟨S18432x4x8, .f32⟩
  | .hbm, ⟨2, _⟩ => ⟨S4x8x4096x256, .f32⟩
  | .hbm, ⟨3, _⟩ => ⟨S4x8x4096x256, .f32⟩
  | .hbm, ⟨4, _⟩ => ⟨S4x8x256x4096, .f32⟩
  | .hbm, ⟨5, _⟩ => ⟨S4x8x4096x512, .f32⟩
  | .hbm, ⟨6, _⟩ => ⟨S4x8x4096x512, .bf16⟩
  | .hbm, ⟨7, _⟩ => ⟨S32x4096x512, .bf16⟩
  | .hbm, ⟨8, _⟩ => ⟨S18432x32, .f32⟩
  | .hbm, ⟨9, _⟩ => ⟨S_, .i32⟩
  | .hbm, ⟨10, _⟩ => ⟨S_, .f32⟩
  | .hbm, ⟨11, _⟩ => ⟨S18432x128, .f32⟩
  | .hbm, ⟨12, _⟩ => ⟨S18432x4096, .bf16⟩
  | .hbm, ⟨13, _⟩ => ⟨S4x8x256x4096, .bf16⟩
  | .hbm, ⟨14, _⟩ => ⟨S32x256x4096, .bf16⟩
  | .hbm, ⟨15, _⟩ => ⟨S18432x4096, .bf16⟩
  | .local _ .vmem, ⟨0, _⟩ => ⟨S512x4096, .bf16⟩
  | .local _ .vmem, ⟨1, _⟩ => ⟨S512x4096, .bf16⟩
  | .local _ .vmem, ⟨2, _⟩ => ⟨S512x128, .f32⟩
  | .local _ .vmem, ⟨3, _⟩ => ⟨S512x128, .f32⟩
  | .local _ .vmem, ⟨4, _⟩ => ⟨S1x4096x512, .bf16⟩
  | .local _ .vmem, ⟨5, _⟩ => ⟨S1x4096x512, .bf16⟩
  | .local _ .vmem, ⟨6, _⟩ => ⟨S1x256x4096, .bf16⟩
  | .local _ .vmem, ⟨7, _⟩ => ⟨S1x256x4096, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .f32⟩
  | .local _ .smem, ⟨0, _⟩ => ⟨S36, .i32⟩
  | _, _ => ⟨S18432x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![36, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c8_i32 : BitVec 32 := 8#32
  let v2 : BitVec 32 := Scalar.muli v1 c8_i32
  let c0_i32 : BitVec 32 := 0#32
  let v3 : BitVec 32 := Scalar.addi c0_i32 v2
  let v4 : BitVec 32 := Scalar.addi v3 arg1
  let c0_i32_0 : BitVec 32 := 0#32
  let c0_i32_1 : BitVec 32 := 0#32
  let c0_i32_2 : BitVec 32 := 0#32
  ![v4.toNat, c0_i32_0.toNat, c0_i32_1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c8_i32 : BitVec 32 := 8#32
  let v2 : BitVec 32 := Scalar.muli v1 c8_i32
  let c0_i32 : BitVec 32 := 0#32
  let v3 : BitVec 32 := Scalar.addi c0_i32 v2
  let v4 : BitVec 32 := Scalar.addi v3 arg1
  let c0_i32_0 : BitVec 32 := 0#32
  let c0_i32_1 : BitVec 32 := 0#32
  let c0_i32_2 : BitVec 32 := 0#32
  ![v4.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S36 : Shape := ⟨1, ![36]⟩
abbrev S18432x4096 : Shape := ⟨2, ![18432, 4096]⟩
abbrev S18432x4x8 : Shape := ⟨3, ![18432, 4, 8]⟩
abbrev S4x8x4096x256 : Shape := ⟨4, ![4, 8, 4096, 256]⟩
abbrev S4x8x256x4096 : Shape := ⟨4, ![4, 8, 256, 4096]⟩
abbrev S_ : Shape := ⟨0, ![]⟩
abbrev S1x8x4096x256 : Shape := ⟨4, ![1, 8, 4096, 256]⟩
abbrev S8x4096x256 : Shape := ⟨3, ![8, 4096, 256]⟩
abbrev S18432x8x256 : Shape := ⟨3, ![18432, 8, 256]⟩
abbrev S18432x1x8 : Shape := ⟨3, ![18432, 1, 8]⟩
abbrev S18432x8 : Shape := ⟨2, ![18432, 8]⟩
abbrev S18432x8x1 : Shape := ⟨3, ![18432, 8, 1]⟩
abbrev S1x8x256x4096 : Shape := ⟨4, ![1, 8, 256, 4096]⟩
abbrev S8x256x4096 : Shape := ⟨3, ![8, 256, 4096]⟩

abbrev nBuf : Space → Nat
  | .hbm => 109
  | .vmem => 0
  | .smem => 0
  | _ => 0

abbrev bufTy : (tb : Table) → Fin (tcTables nBuf tb) → BufTy
  | .hbm, ⟨0, _⟩ => ⟨S36, .i32⟩
  | .hbm, ⟨1, _⟩ => ⟨S18432x4096, .f32⟩
  | .hbm, ⟨2, _⟩ => ⟨S18432x4x8, .f32⟩
  | .hbm, ⟨3, _⟩ => ⟨S4x8x4096x256, .f32⟩
  | .hbm, ⟨4, _⟩ => ⟨S4x8x4096x256, .f32⟩
  | .hbm, ⟨5, _⟩ => ⟨S4x8x256x4096, .f32⟩
  | .hbm, ⟨6, _⟩ => ⟨S_, .f32⟩
  | .hbm, ⟨7, _⟩ => ⟨S18432x4096, .f32⟩
  | .hbm, ⟨8, _⟩ => ⟨S1x8x4096x256, .f32⟩
  | .hbm, ⟨9, _⟩ => ⟨S8x4096x256, .f32⟩
  | .hbm, ⟨10, _⟩ => ⟨S18432x8x256, .f32⟩
  | .hbm, ⟨11, _⟩ => ⟨S18432x8x256, .f32⟩
  | .hbm, ⟨12, _⟩ => ⟨S18432x8x256, .f32⟩
  | .hbm, ⟨13, _⟩ => ⟨S_, .f32⟩
  | .hbm, ⟨14, _⟩ => ⟨S18432x8x256, .f32⟩
  | .hbm, ⟨15, _⟩ => ⟨S18432x8x256, .f32⟩
  | .hbm, ⟨16, _⟩ => ⟨S_, .f32⟩
  | .hbm, ⟨17, _⟩ => ⟨S18432x8x256, .f32⟩
  | .hbm, ⟨18, _⟩ => ⟨S18432x8x256, .f32⟩
  | .hbm, ⟨19, _⟩ => ⟨S18432x8x256, .f32⟩
  | .hbm, ⟨20, _⟩ => ⟨S1x8x4096x256, .f32⟩
  | .hbm, ⟨21, _⟩ => ⟨S8x4096x256, .f32⟩
  | .hbm, ⟨22, _⟩ => ⟨S18432x8x256, .f32⟩
  | .hbm, ⟨23, _⟩ => ⟨S18432x8x256, .f32⟩
  | .hbm, ⟨24, _⟩ => ⟨S18432x1x8, .f32⟩
  | .hbm, ⟨25, _⟩ => ⟨S18432x8, .f32⟩
  | .hbm, ⟨26, _⟩ => ⟨S18432x8x1, .f32⟩
  | .hbm, ⟨27, _⟩ => ⟨S18432x8x256, .f32⟩
  | .hbm, ⟨28, _⟩ => ⟨S18432x8x256, .f32⟩
  | .hbm, ⟨29, _⟩ => ⟨S1x8x256x4096, .f32⟩
  | .hbm, ⟨30, _⟩ => ⟨S8x256x4096, .f32⟩
  | .hbm, ⟨31, _⟩ => ⟨S18432x4096, .f32⟩
  | .hbm, ⟨32, _⟩ => ⟨S18432x4096, .f32⟩
  | .hbm, ⟨33, _⟩ => ⟨S1x8x4096x256, .f32⟩
  | .hbm, ⟨34, _⟩ => ⟨S8x4096x256, .f32⟩
  | .hbm, ⟨35, _⟩ => ⟨S18432x8x256, .f32⟩
  | .hbm, ⟨36, _⟩ => ⟨S18432x8x256, .f32⟩
  | .hbm, ⟨37, _⟩ => ⟨S18432x8x256, .f32⟩
  | .hbm, ⟨38, _⟩ => ⟨S_, .f32⟩
  | .hbm, ⟨39, _⟩ => ⟨S18432x8x256, .f32⟩
  | .hbm, ⟨40, _⟩ => ⟨S18432x8x256, .f32⟩
  | .hbm, ⟨41, _⟩ => ⟨S_, .f32⟩
  | .hbm, ⟨42, _⟩ => ⟨S18432x8x256, .f32⟩
  | .hbm, ⟨43, _⟩ => ⟨S18432x8x256, .f32⟩
  | .hbm, ⟨44, _⟩ => ⟨S18432x8x256, .f32⟩
  | .hbm, ⟨45, _⟩ => ⟨S1x8x4096x256, .f32⟩
  | .hbm, ⟨46, _⟩ => ⟨S8x4096x256, .f32⟩
  | .hbm, ⟨47, _⟩ => ⟨S18432x8x256, .f32⟩
  | .hbm, ⟨48, _⟩ => ⟨S18432x8x256, .f32⟩
  | .hbm, ⟨49, _⟩ => ⟨S18432x1x8, .f32⟩
  | .hbm, ⟨50, _⟩ => ⟨S18432x8, .f32⟩
  | .hbm, ⟨51, _⟩ => ⟨S18432x8x1, .f32⟩
  | .hbm, ⟨52, _⟩ => ⟨S18432x8x256, .f32⟩
  | .hbm, ⟨53, _⟩ => ⟨S18432x8x256, .f32⟩
  | .hbm, ⟨54, _⟩ => ⟨S1x8x256x4096, .f32⟩
  | .hbm, ⟨55, _⟩ => ⟨S8x256x4096, .f32⟩
  | .hbm, ⟨56, _⟩ => ⟨S18432x4096, .f32⟩
  | .hbm, ⟨57, _⟩ => ⟨S18432x4096, .f32⟩
  | .hbm, ⟨58, _⟩ => ⟨S1x8x4096x256, .f32⟩
  | .hbm, ⟨59, _⟩ => ⟨S8x4096x256, .f32⟩
  | .hbm, ⟨60, _⟩ => ⟨S18432x8x256, .f32⟩
  | .hbm, ⟨61, _⟩ => ⟨S18432x8x256, .f32⟩
  | .hbm, ⟨62, _⟩ => ⟨S18432x8x256, .f32⟩
  | .hbm, ⟨63, _⟩ => ⟨S_, .f32⟩
  | .hbm, ⟨64, _⟩ => ⟨S18432x8x256, .f32⟩
  | .hbm, ⟨65, _⟩ => ⟨S18432x8x256, .f32⟩
  | .hbm, ⟨66, _⟩ => ⟨S_, .f32⟩
  | .hbm, ⟨67, _⟩ => ⟨S18432x8x256, .f32⟩
  | .hbm, ⟨68, _⟩ => ⟨S18432x8x256, .f32⟩
  | .hbm, ⟨69, _⟩ => ⟨S18432x8x256, .f32⟩
  | .hbm, ⟨70, _⟩ => ⟨S1x8x4096x256, .f32⟩
  | .hbm, ⟨71, _⟩ => ⟨S8x4096x256, .f32⟩
  | .hbm, ⟨72, _⟩ => ⟨S18432x8x256, .f32⟩
  | .hbm, ⟨73, _⟩ => ⟨S18432x8x256, .f32⟩
  | .hbm, ⟨74, _⟩ => ⟨S18432x1x8, .f32⟩
  | .hbm, ⟨75, _⟩ => ⟨S18432x8, .f32⟩
  | .hbm, ⟨76, _⟩ => ⟨S18432x8x1, .f32⟩
  | .hbm, ⟨77, _⟩ => ⟨S18432x8x256, .f32⟩
  | .hbm, ⟨78, _⟩ => ⟨S18432x8x256, .f32⟩
  | .hbm, ⟨79, _⟩ => ⟨S1x8x256x4096, .f32⟩
  | .hbm, ⟨80, _⟩ => ⟨S8x256x4096, .f32⟩
  | .hbm, ⟨81, _⟩ => ⟨S18432x4096, .f32⟩
  | .hbm, ⟨82, _⟩ => ⟨S18432x4096, .f32⟩
  | .hbm, ⟨83, _⟩ => ⟨S1x8x4096x256, .f32⟩
  | .hbm, ⟨84, _⟩ => ⟨S8x4096x256, .f32⟩
  | .hbm, ⟨85, _⟩ => ⟨S18432x8x256, .f32⟩
  | .hbm, ⟨86, _⟩ => ⟨S18432x8x256, .f32⟩
  | .hbm, ⟨87, _⟩ => ⟨S18432x8x256, .f32⟩
  | .hbm, ⟨88, _⟩ => ⟨S_, .f32⟩
  | .hbm, ⟨89, _⟩ => ⟨S18432x8x256, .f32⟩
  | .hbm, ⟨90, _⟩ => ⟨S18432x8x256, .f32⟩
  | .hbm, ⟨91, _⟩ => ⟨S_, .f32⟩
  | .hbm, ⟨92, _⟩ => ⟨S18432x8x256, .f32⟩
  | .hbm, ⟨93, _⟩ => ⟨S18432x8x256, .f32⟩
  | .hbm, ⟨94, _⟩ => ⟨S18432x8x256, .f32⟩
  | .hbm, ⟨95, _⟩ => ⟨S1x8x4096x256, .f32⟩
  | .hbm, ⟨96, _⟩ => ⟨S8x4096x256, .f32⟩
  | .hbm, ⟨97, _⟩ => ⟨S18432x8x256, .f32⟩
  | .hbm, ⟨98, _⟩ => ⟨S18432x8x256, .f32⟩
  | .hbm, ⟨99, _⟩ => ⟨S18432x1x8, .f32⟩
  | .hbm, ⟨100, _⟩ => ⟨S18432x8, .f32⟩
  | .hbm, ⟨101, _⟩ => ⟨S18432x8x1, .f32⟩
  | .hbm, ⟨102, _⟩ => ⟨S18432x8x256, .f32⟩
  | .hbm, ⟨103, _⟩ => ⟨S18432x8x256, .f32⟩
  | .hbm, ⟨104, _⟩ => ⟨S1x8x256x4096, .f32⟩
  | .hbm, ⟨105, _⟩ => ⟨S8x256x4096, .f32⟩
  | .hbm, ⟨106, _⟩ => ⟨S18432x4096, .f32⟩
  | .hbm, ⟨107, _⟩ => ⟨S18432x4096, .f32⟩
  | .hbm, ⟨108, _⟩ => ⟨S18432x4096, .bf16⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩

abbrev nD : Nat := 1
abbrev τ : Topo := Topo.v7x

variable {F : FTy → Type} [FloatOps F]
-- ==== InKernel.lean ====
abbrev S2x8208x4096 : Shape := ⟨3, ![2, 8208, 4096]⟩
abbrev S4096x10240 : Shape := ⟨2, ![4096, 10240]⟩
abbrev S_ : Shape := ⟨0, ![]⟩
abbrev S2x8320x4096 : Shape := ⟨3, ![2, 8320, 4096]⟩
abbrev S16640x4096 : Shape := ⟨2, ![16640, 4096]⟩
abbrev S16640x10240 : Shape := ⟨2, ![16640, 10240]⟩
abbrev S1280x4096 : Shape := ⟨2, ![1280, 4096]⟩
abbrev S4096x1024 : Shape := ⟨2, ![4096, 1024]⟩
abbrev S1280x1024 : Shape := ⟨2, ![1280, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2x8208x4096, .f32⟩
  | .hbm, ⟨1, _⟩ => ⟨S4096x10240, .f32⟩
  | .hbm, ⟨2, _⟩ => ⟨S_, .i32⟩
  | .hbm, ⟨3, _⟩ => ⟨S_, .f32⟩
  | .hbm, ⟨4, _⟩ => ⟨S2x8320x4096, .f32⟩
  | .hbm, ⟨5, _⟩ => ⟨S16640x4096, .f32⟩
  | .hbm, ⟨6, _⟩ => ⟨S16640x4096, .bf16⟩
  | .hbm, ⟨7, _⟩ => ⟨S4096x10240, .bf16⟩
  | .hbm, ⟨8, _⟩ => ⟨S16640x10240, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x1024, .bf16⟩
  | .local _ .vmem, ⟨5, _⟩ => ⟨S1280x1024, .bf16⟩
  | _, _ => ⟨S2x8208x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S2x8208x4096 : Shape := ⟨3, ![2, 8208, 4096]⟩
abbrev S4096x10240 : Shape := ⟨2, ![4096, 10240]⟩
abbrev S2x8208x10240 : Shape := ⟨3, ![2, 8208, 10240]⟩
abbrev S_ : Shape := ⟨0, ![]⟩
abbrev S2x8320x10240 : Shape := ⟨3, ![2, 8320, 10240]⟩
abbrev S16640x10240 : Shape := ⟨2, ![16640, 10240]⟩

abbrev nBuf : Space → Nat
  | .hbm => 8
  | .vmem => 0
  | .smem => 0
  | _ => 0

abbrev bufTy : (tb : Table) → Fin (tcTables nBuf tb) → BufTy
  | .hbm, ⟨0, _⟩ => ⟨S2x8208x4096, .f32⟩
  | .hbm, ⟨1, _⟩ => ⟨S4096x10240, .f32⟩
  | .hbm, ⟨2, _⟩ => ⟨S2x8208x10240, .f32⟩
  | .hbm, ⟨3, _⟩ => ⟨S_, .i32⟩
  | .hbm, ⟨4, _⟩ => ⟨S_, .f32⟩
  | .hbm, ⟨5, _⟩ => ⟨S2x8320x10240, .f32⟩
  | .hbm, ⟨6, _⟩ => ⟨S16640x10240, .f32⟩
  | .hbm, ⟨7, _⟩ => ⟨S16640x10240, .bf16⟩
  | _, _ => ⟨S2x8208x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutKernel.lean ====
abbrev S2x8208x5120 : Shape := ⟨3, ![2, 8208, 5120]⟩
abbrev S5120x4096 : Shape := ⟨2, ![5120, 4096]⟩
abbrev S2x8208x4096 : Shape := ⟨3, ![2, 8208, 4096]⟩
abbrev S_ : Shape := ⟨0, ![]⟩
abbrev S2x8320x5120 : Shape := ⟨3, ![2, 8320, 5120]⟩
abbrev S16640x5120 : Shape := ⟨2, ![16640, 5120]⟩
abbrev S2x8320x4096 : Shape := ⟨3, ![2, 8320, 4096]⟩
abbrev S16640x4096 : Shape := ⟨2, ![16640, 4096]⟩
abbrev S1280x5120 : Shape := ⟨2, ![1280, 5120]⟩
abbrev S5120x512 : Shape := ⟨2, ![5120, 512]⟩
abbrev S1280x512 : Shape := ⟨2, ![1280, 512]⟩

abbrev nBuf : Space → Nat
  | .hbm => 14
  | .vmem => 8
  | .smem => 0
  | _ => 0

abbrev bufTy : (tb : Table) → Fin (tcTables nBuf tb) → BufTy
  | .hbm, ⟨0, _⟩ => ⟨S2x8208x5120, .f32⟩
  | .hbm, ⟨1, _⟩ => ⟨S5120x4096, .f32⟩
  | .hbm, ⟨2, _⟩ => ⟨S2x8208x4096, .f32⟩
  | .hbm, ⟨3, _⟩ => ⟨S_, .i32⟩
  | .hbm, ⟨4, _⟩ => ⟨S_, .f32⟩
  | .hbm, ⟨5, _⟩ => ⟨S2x8320x5120, .f32⟩
  | .hbm, ⟨6, _⟩ => ⟨S16640x5120, .f32⟩
  | .hbm, ⟨7, _⟩ => ⟨S16640x5120, .bf16⟩
  | .hbm, ⟨8, _⟩ => ⟨S5120x4096, .bf16⟩
  | .hbm, ⟨9, _⟩ => ⟨S_, .i32⟩
  | .hbm, ⟨10, _⟩ => ⟨S_, .f32⟩
  | .hbm, ⟨11, _⟩ => ⟨S2x8320x4096, .f32⟩
  | .hbm, ⟨12, _⟩ => ⟨S16640x4096, .f32⟩
  | .hbm, ⟨13, _⟩ => ⟨S16640x4096, .f32⟩
  | .local _ .vmem, ⟨0, _⟩ => ⟨S1280x5120, .bf16⟩
  | .local _ .vmem, ⟨1, _⟩ => ⟨S1280x5120, .bf16⟩
  | .local _ .vmem, ⟨2, _⟩ => ⟨S5120x512, .bf16⟩
  | .local _ .vmem, ⟨3, _⟩ => ⟨S5120x512, .bf16⟩
  | .local _ .vmem, ⟨4, _⟩ => ⟨S1280x512, .f32⟩
  | .local _ .vmem, ⟨5, _⟩ => ⟨S1280x512, .f32⟩
  | .local _ .vmem, ⟨6, _⟩ => ⟨S1280x512, .f32⟩
  | .local _ .vmem, ⟨7, _⟩ => ⟨S1280x512, .f32⟩
  | _, _ => ⟨S2x8208x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5120x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S2x8208x5120 : Shape := ⟨3, ![2, 8208, 5120]⟩
abbrev S5120x4096 : Shape := ⟨2, ![5120, 4096]⟩
abbrev S2x8208x4096 : Shape := ⟨3, ![2, 8208, 4096]⟩
abbrev S_ : Shape := ⟨0, ![]⟩
abbrev S2x8320x4096 : Shape := ⟨3, ![2, 8320, 4096]⟩
abbrev S16640x4096 : Shape := ⟨2, ![16640, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x8208x5120, .f32⟩
  | .hbm, ⟨1, _⟩ => ⟨S5120x4096, .f32⟩
  | .hbm, ⟨2, _⟩ => ⟨S2x8208x4096, .f32⟩
  | .hbm, ⟨3, _⟩ => ⟨S2x8208x4096, .f32⟩
  | .hbm, ⟨4, _⟩ => ⟨S2x8208x4096, .f32⟩
  | .hbm, ⟨5, _⟩ => ⟨S_, .i32⟩
  | .hbm, ⟨6, _⟩ => ⟨S_, .f32⟩
  | .hbm, ⟨7, _⟩ => ⟨S2x8320x4096, .f32⟩
  | .hbm, ⟨8, _⟩ => ⟨S16640x4096, .f32⟩
  | _, _ => ⟨S2x8208x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== FinalKernel.lean ====
abbrev S2x8208x4096 : Shape := ⟨3, ![2, 8208, 4096]⟩
abbrev S4096 : Shape := ⟨1, ![4096]⟩
abbrev S_ : Shape := ⟨0, ![]⟩
abbrev S2x8320x4096 : Shape := ⟨3, ![2, 8320, 4096]⟩
abbrev S16640x4096 : Shape := ⟨2, ![16640, 4096]⟩
abbrev S1x4096 : Shape := ⟨2, ![1, 4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S2x8208x4096, .f32⟩
  | .hbm, ⟨1, _⟩ => ⟨S2x8208x4096, .f32⟩
  | .hbm, ⟨2, _⟩ => ⟨S4096, .f32⟩
  | .hbm, ⟨3, _⟩ => ⟨S_, .i32⟩
  | .hbm, ⟨4, _⟩ => ⟨S_, .f32⟩
  | .hbm, ⟨5, _⟩ => ⟨S2x8320x4096, .f32⟩
  | .hbm, ⟨6, _⟩ => ⟨S16640x4096, .f32⟩
  | .hbm, ⟨7, _⟩ => ⟨S_, .i32⟩
  | .hbm, ⟨8, _⟩ => ⟨S_, .f32⟩
  | .hbm, ⟨9, _⟩ => ⟨S2x8320x4096, .f32⟩
  | .hbm, ⟨10, _⟩ => ⟨S16640x4096, .f32⟩
  | .hbm, ⟨11, _⟩ => ⟨S16640x4096, .bf16⟩
  | .hbm, ⟨12, _⟩ => ⟨S1x4096, .f32⟩
  | .hbm, ⟨13, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S2x8208x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c8320_i32 : BitVec 32 := 8320#32
  let v0 : BitVec 32 := Scalar.muli arg0 c8320_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult2 (i : grid0.Coords) : BitVec 32 :=
  let arg0 : BitVec 32 := BitVec.ofNat 32 (i 0).val
  let c8320_i32 : BitVec 32 := 8320#32
  let v0 : BitVec 32 := Scalar.muli arg0 c8320_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FinalReferenceIdeal.lean ====
abbrev S2x8208x4096 : Shape := ⟨3, ![2, 8208, 4096]⟩
abbrev S4096 : Shape := ⟨1, ![4096]⟩
abbrev S_ : Shape := ⟨0, ![]⟩
abbrev S2x8208 : Shape := ⟨2, ![2, 8208]⟩
abbrev S2x8208x1 : Shape := ⟨3, ![2, 8208, 1]⟩
abbrev S1x1x4096 : Shape := ⟨3, ![1, 1, 4096]⟩
abbrev S2x8192x4096 : Shape := ⟨3, ![2, 8192, 4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x8208x4096, .f32⟩
  | .hbm, ⟨1, _⟩ => ⟨S2x8208x4096, .f32⟩
  | .hbm, ⟨2, _⟩ => ⟨S4096, .f32⟩
  | .hbm, ⟨3, _⟩ => ⟨S2x8208x4096, .f32⟩
  | .hbm, ⟨4, _⟩ => ⟨S2x8208x4096, .f32⟩
  | .hbm, ⟨5, _⟩ => ⟨S_, .f32⟩
  | .hbm, ⟨6, _⟩ => ⟨S2x8208, .f32⟩
  | .hbm, ⟨7, _⟩ => ⟨S2x8208x1, .f32⟩
  | .hbm, ⟨8, _⟩ => ⟨S_, .f32⟩
  | .hbm, ⟨9, _⟩ => ⟨S2x8208x1, .f32⟩
  | .hbm, ⟨10, _⟩ => ⟨S2x8208x1, .f32⟩
  | .hbm, ⟨11, _⟩ => ⟨S_, .f32⟩
  | .hbm, ⟨12, _⟩ => ⟨S2x8208x1, .f32⟩
  | .hbm, ⟨13, _⟩ => ⟨S2x8208x1, .f32⟩
  | .hbm, ⟨14, _⟩ => ⟨S2x8208x1, .f32⟩
  | .hbm, ⟨15, _⟩ => ⟨S2x8208x4096, .f32⟩
  | .hbm, ⟨16, _⟩ => ⟨S2x8208x4096, .f32⟩
  | .hbm, ⟨17, _⟩ => ⟨S1x1x4096, .f32⟩
  | .hbm, ⟨18, _⟩ => ⟨S2x8208x4096, .f32⟩
  | .hbm, ⟨19, _⟩ => ⟨S2x8208x4096, .f32⟩
  | .hbm, ⟨20, _⟩ => ⟨S2x8192x4096, .f32⟩
  | .hbm, ⟨21, _⟩ => ⟨S16384x4096, .f32⟩
  | _, _ => ⟨S2x8208x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== EvInKernel.lean ====
abbrev S2x8208x4096 : Shape := ⟨3, ![2, 8208, 4096]⟩
abbrev S4096x12336 : Shape := ⟨2, ![4096, 12336]⟩
abbrev S4096x6144 : Shape := ⟨2, ![4096, 6144]⟩
abbrev S4096x12288 : Shape := ⟨2, ![4096, 12288]⟩
abbrev S_ : Shape := ⟨0, ![]⟩
abbrev S2x8320x4096 : Shape := ⟨3, ![2, 8320, 4096]⟩
abbrev S16640x4096 : Shape := ⟨2, ![16640, 4096]⟩
abbrev S16640x12288 : Shape := ⟨2, ![16640, 12288]⟩
abbrev S1280x4096 : Shape := ⟨2, ![1280, 4096]⟩
abbrev S4096x1024 : Shape := ⟨2, ![4096, 1024]⟩
abbrev S1280x1024 : Shape := ⟨2, ![1280, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2x8208x4096, .f32⟩
  | .hbm, ⟨1, _⟩ => ⟨S4096x12336, .f32⟩
  | .hbm, ⟨2, _⟩ => ⟨S4096x6144, .f32⟩
  | .hbm, ⟨3, _⟩ => ⟨S4096x6144, .f32⟩
  | .hbm, ⟨4, _⟩ => ⟨S4096x12288, .f32⟩
  | .hbm, ⟨5, _⟩ => ⟨S_, .i32⟩
  | .hbm, ⟨6, _⟩ => ⟨S_, .f32⟩
  | .hbm, ⟨7, _⟩ => ⟨S2x8320x4096, .f32⟩
  | .hbm, ⟨8, _⟩ => ⟨S16640x4096, .f32⟩
  | .hbm, ⟨9, _⟩ => ⟨S16640x4096, .bf16⟩
  | .hbm, ⟨10, _⟩ => ⟨S4096x12288, .bf16⟩
  | .hbm, ⟨11, _⟩ => ⟨S16640x12288, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x1024, .bf16⟩
  | .local _ .vmem, ⟨5, _⟩ => ⟨S1280x1024, .bf16⟩
  | _, _ => ⟨S2x8208x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvInReferenceIdeal.lean ====
abbrev S2x8208x4096 : Shape := ⟨3, ![2, 8208, 4096]⟩
abbrev S4096x12336 : Shape := ⟨2, ![4096, 12336]⟩
abbrev S2x8208x12336 : Shape := ⟨3, ![2, 8208, 12336]⟩
abbrev S2x8208x6144 : Shape := ⟨3, ![2, 8208, 6144]⟩
abbrev S2x8208x12288 : Shape := ⟨3, ![2, 8208, 12288]⟩
abbrev S_ : Shape := ⟨0, ![]⟩
abbrev S2x8320x12288 : Shape := ⟨3, ![2, 8320, 12288]⟩
abbrev S16640x12288 : Shape := ⟨2, ![16640, 12288]⟩

abbrev nBuf : Space → Nat
  | .hbm => 11
  | .vmem => 0
  | .smem => 0
  | _ => 0

abbrev bufTy : (tb : Table) → Fin (tcTables nBuf tb) → BufTy
  | .hbm, ⟨0, _⟩ => ⟨S2x8208x4096, .f32⟩
  | .hbm, ⟨1, _⟩ => ⟨S4096x12336, .f32⟩
  | .hbm, ⟨2, _⟩ => ⟨S2x8208x12336, .f32⟩
  | .hbm, ⟨3, _⟩ => ⟨S2x8208x6144, .f32⟩
  | .hbm, ⟨4, _⟩ => ⟨S2x8208x6144, .f32⟩
  | .hbm, ⟨5, _⟩ => ⟨S2x8208x12288, .f32⟩
  | .hbm, ⟨6, _⟩ => ⟨S_, .i32⟩
  | .hbm, ⟨7, _⟩ => ⟨S_, .f32⟩
  | .hbm, ⟨8, _⟩ => ⟨S2x8320x12288, .f32⟩
  | .hbm, ⟨9, _⟩ => ⟨S16640x12288, .f32⟩
  | .hbm, ⟨10, _⟩ => ⟨S16640x12288, .bf16⟩
  | _, _ => ⟨S2x8208x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== EvSmKernel.lean ====
abbrev S2x8208x4096 : Shape := ⟨3, ![2, 8208, 4096]⟩
abbrev S4096x12336 : Shape := ⟨2, ![4096, 12336]⟩
abbrev S4096x16 : Shape := ⟨2, ![4096, 16]⟩
abbrev S4096x32 : Shape := ⟨2, ![4096, 32]⟩
abbrev S4096x48 : Shape := ⟨2, ![4096, 48]⟩
abbrev S_ : Shape := ⟨0, ![]⟩
abbrev S4096x128 : Shape := ⟨2, ![4096, 128]⟩
abbrev S2x8320x4096 : Shape := ⟨3, ![2, 8320, 4096]⟩
abbrev S16640x4096 : Shape := ⟨2, ![16640, 4096]⟩
abbrev S16640x128 : Shape := ⟨2, ![16640, 128]⟩
abbrev S1280x4096 : Shape := ⟨2, ![1280, 4096]⟩
abbrev S1280x128 : Shape := ⟨2, ![1280, 128]⟩

abbrev nBuf : Space → Nat
  | .hbm => 15
  | .vmem => 5
  | .smem => 0
  | _ => 0

abbrev bufTy : (tb : Table) → Fin (tcTables nBuf tb) → BufTy
  | .hbm, ⟨0, _⟩ => ⟨S2x8208x4096, .f32⟩
  | .hbm, ⟨1, _⟩ => ⟨S4096x12336, .f32⟩
  | .hbm, ⟨2, _⟩ => ⟨S4096x16, .f32⟩
  | .hbm, ⟨3, _⟩ => ⟨S4096x32, .f32⟩
  | .hbm, ⟨4, _⟩ => ⟨S4096x48, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S_, .i32⟩
  | .hbm, ⟨9, _⟩ => ⟨S_, .f32⟩
  | .hbm, ⟨10, _⟩ => ⟨S2x8320x4096, .f32⟩
  | .hbm, ⟨11, _⟩ => ⟨S16640x4096, .f32⟩
  | .hbm, ⟨12, _⟩ => ⟨S16640x4096, .bf16⟩
  | .hbm, ⟨13, _⟩ => ⟨S4096x128, .bf16⟩
  | .hbm, ⟨14, _⟩ => ⟨S16640x128, .f32⟩
  | .local _ .vmem, ⟨0, _⟩ => ⟨S1280x4096, .bf16⟩
  | .local _ .vmem, ⟨1, _⟩ => ⟨S1280x4096, .bf16⟩
  | .local _ .vmem, ⟨2, _⟩ => ⟨S4096x128, .bf16⟩
  | .local _ .vmem, ⟨3, _⟩ => ⟨S1280x128, .f32⟩
  | .local _ .vmem, ⟨4, _⟩ => ⟨S1280x128, .f32⟩
  | _, _ => ⟨S2x8208x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvSmReferenceIdeal.lean ====
abbrev S2x8208x4096 : Shape := ⟨3, ![2, 8208, 4096]⟩
abbrev S4096x12336 : Shape := ⟨2, ![4096, 12336]⟩
abbrev S2x8208x12336 : Shape := ⟨3, ![2, 8208, 12336]⟩
abbrev S2x8208x16 : Shape := ⟨3, ![2, 8208, 16]⟩
abbrev S2x8208x32 : Shape := ⟨3, ![2, 8208, 32]⟩
abbrev S2x8208x48 : Shape := ⟨3, ![2, 8208, 48]⟩
abbrev S_ : Shape := ⟨0, ![]⟩
abbrev S2x8320x128 : Shape := ⟨3, ![2, 8320, 128]⟩
abbrev S16640x128 : Shape := ⟨2, ![16640, 128]⟩

abbrev nBuf : Space → Nat
  | .hbm => 10
  | .vmem => 0
  | .smem => 0
  | _ => 0

abbrev bufTy : (tb : Table) → Fin (tcTables nBuf tb) → BufTy
  | .hbm, ⟨0, _⟩ => ⟨S2x8208x4096, .f32⟩
  | .hbm, ⟨1, _⟩ => ⟨S4096x12336, .f32⟩
  | .hbm, ⟨2, _⟩ => ⟨S2x8208x12336, .f32⟩
  | .hbm, ⟨3, _⟩ => ⟨S2x8208x16, .f32⟩
  | .hbm, ⟨4, _⟩ => ⟨S2x8208x32, .f32⟩
  | .hbm, ⟨5, _⟩ => ⟨S2x8208x48, .f32⟩
  | .hbm, ⟨6, _⟩ => ⟨S_, .i32⟩
  | .hbm, ⟨7, _⟩ => ⟨S_, .f32⟩
  | .hbm, ⟨8, _⟩ => ⟨S2x8320x128, .f32⟩
  | .hbm, ⟨9, _⟩ => ⟨S16640x128, .f32⟩
  | _, _ => ⟨S2x8208x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== EvOutKernel.lean ====
abbrev S2x8208x4096 : Shape := ⟨3, ![2, 8208, 4096]⟩
abbrev S4096x4096 : Shape := ⟨2, ![4096, 4096]⟩
abbrev S_ : Shape := ⟨0, ![]⟩
abbrev S2x8320x4096 : Shape := ⟨3, ![2, 8320, 4096]⟩
abbrev S16640x4096 : Shape := ⟨2, ![16640, 4096]⟩
abbrev S1280x4096 : Shape := ⟨2, ![1280, 4096]⟩
abbrev S4096x512 : Shape := ⟨2, ![4096, 512]⟩
abbrev S1280x512 : Shape := ⟨2, ![1280, 512]⟩

abbrev nBuf : Space → Nat
  | .hbm => 14
  | .vmem => 8
  | .smem => 0
  | _ => 0

abbrev bufTy : (tb : Table) → Fin (tcTables nBuf tb) → BufTy
  | .hbm, ⟨0, _⟩ => ⟨S2x8208x4096, .f32⟩
  | .hbm, ⟨1, _⟩ => ⟨S4096x4096, .f32⟩
  | .hbm, ⟨2, _⟩ => ⟨S2x8208x4096, .f32⟩
  | .hbm, ⟨3, _⟩ => ⟨S_, .i32⟩
  | .hbm, ⟨4, _⟩ => ⟨S_, .f32⟩
  | .hbm, ⟨5, _⟩ => ⟨S2x8320x4096, .f32⟩
  | .hbm, ⟨6, _⟩ => ⟨S16640x4096, .f32⟩
  | .hbm, ⟨7, _⟩ => ⟨S16640x4096, .bf16⟩
  | .hbm, ⟨8, _⟩ => ⟨S4096x4096, .bf16⟩
  | .hbm, ⟨9, _⟩ => ⟨S_, .i32⟩
  | .hbm, ⟨10, _⟩ => ⟨S_, .f32⟩
  | .hbm, ⟨11, _⟩ => ⟨S2x8320x4096, .f32⟩
  | .hbm, ⟨12, _⟩ => ⟨S16640x4096, .f32⟩
  | .hbm, ⟨13, _⟩ => ⟨S16640x4096, .f32⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .f32⟩
  | .local _ .vmem, ⟨5, _⟩ => ⟨S1280x512, .f32⟩
  | .local _ .vmem, ⟨6, _⟩ => ⟨S1280x512, .f32⟩
  | .local _ .vmem, ⟨7, _⟩ => ⟨S1280x512, .f32⟩
  | _, _ => ⟨S2x8208x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvOutReferenceIdeal.lean ====
abbrev S2x8208x4096 : Shape := ⟨3, ![2, 8208, 4096]⟩
abbrev S4096x4096 : Shape := ⟨2, ![4096, 4096]⟩
abbrev S_ : Shape := ⟨0, ![]⟩
abbrev S2x8320x4096 : Shape := ⟨3, ![2, 8320, 4096]⟩
abbrev S16640x4096 : Shape := ⟨2, ![16640, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x8208x4096, .f32⟩
  | .hbm, ⟨1, _⟩ => ⟨S4096x4096, .f32⟩
  | .hbm, ⟨2, _⟩ => ⟨S2x8208x4096, .f32⟩
  | .hbm, ⟨3, _⟩ => ⟨S2x8208x4096, .f32⟩
  | .hbm, ⟨4, _⟩ => ⟨S2x8208x4096, .f32⟩
  | .hbm, ⟨5, _⟩ => ⟨S_, .i32⟩
  | .hbm, ⟨6, _⟩ => ⟨S_, .f32⟩
  | .hbm, ⟨7, _⟩ => ⟨S2x8320x4096, .f32⟩
  | .hbm, ⟨8, _⟩ => ⟨S16640x4096, .f32⟩
  | _, _ => ⟨S2x8208x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== GateKernel.lean ====
abbrev S2x8208x5120 : Shape := ⟨3, ![2, 8208, 5120]⟩
abbrev S2x8208x10240 : Shape := ⟨3, ![2, 8208, 10240]⟩
abbrev S_ : Shape := ⟨0, ![]⟩
abbrev S2x8320x10240 : Shape := ⟨3, ![2, 8320, 10240]⟩
abbrev S16640x10240 : Shape := ⟨2, ![16640, 10240]⟩
abbrev S2x8320x5120 : Shape := ⟨3, ![2, 8320, 5120]⟩
abbrev S16640x5120 : Shape := ⟨2, ![16640, 5120]⟩
abbrev S320x5120 : Shape := ⟨2, ![320, 5120]⟩
abbrev S320x1 : Shape := ⟨2, ![320, 1]⟩

abbrev nBuf : Space → Nat
  | .hbm => 21
  | .vmem => 8
  | .smem => 0
  | _ => 0

abbrev bufTy : (tb : Table) → Fin (tcTables nBuf tb) → BufTy
  | .hbm, ⟨0, _⟩ => ⟨S2x8208x5120, .f32⟩
  | .hbm, ⟨1, _⟩ => ⟨S2x8208x5120, .f32⟩
  | .hbm, ⟨2, _⟩ => ⟨S2x8208x5120, .f32⟩
  | .hbm, ⟨3, _⟩ => ⟨S2x8208x5120, .f32⟩
  | .hbm, ⟨4, _⟩ => ⟨S2x8208x10240, .f32⟩
  | .hbm, ⟨5, _⟩ => ⟨S_, .i32⟩
  | .hbm, ⟨6, _⟩ => ⟨S_, .f32⟩
  | .hbm, ⟨7, _⟩ => ⟨S2x8320x10240, .f32⟩
  | .hbm, ⟨8, _⟩ => ⟨S16640x10240, .f32⟩
  | .hbm, ⟨9, _⟩ => ⟨S16640x10240, .bf16⟩
  | .hbm, ⟨10, _⟩ => ⟨S_, .i32⟩
  | .hbm, ⟨11, _⟩ => ⟨S_, .f32⟩
  | .hbm, ⟨12, _⟩ => ⟨S2x8320x5120, .f32⟩
  | .hbm, ⟨13, _⟩ => ⟨S16640x5120, .f32⟩
  | .hbm, ⟨14, _⟩ => ⟨S16640x5120, .bf16⟩
  | .hbm, ⟨15, _⟩ => ⟨S_, .i32⟩
  | .hbm, ⟨16, _⟩ => ⟨S_, .f32⟩
  | .hbm, ⟨17, _⟩ => ⟨S2x8320x5120, .f32⟩
  | .hbm, ⟨18, _⟩ => ⟨S16640x5120, .f32⟩
  | .hbm, ⟨19, _⟩ => ⟨S16640x5120, .bf16⟩
  | .hbm, ⟨20, _⟩ => ⟨S16640x5120, .bf16⟩
  | .local _ .vmem, ⟨0, _⟩ => ⟨S320x5120, .bf16⟩
  | .local _ .vmem, ⟨1, _⟩ => ⟨S320x5120, .bf16⟩
  | .local _ .vmem, ⟨2, _⟩ => ⟨S320x5120, .bf16⟩
  | .local _ .vmem, ⟨3, _⟩ => ⟨S320x5120, .bf16⟩
  | .local _ .vmem, ⟨4, _⟩ => ⟨S320x5120, .bf16⟩
  | .local _ .vmem, ⟨5, _⟩ => ⟨S320x5120, .bf16⟩
  | .local _ .vmem, ⟨6, _⟩ => ⟨S320x5120, .bf16⟩
  | .local _ .vmem, ⟨7, _⟩ => ⟨S320x5120, .bf16⟩
  | _, _ => ⟨S2x8208x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateReferenceIdeal.lean ====
abbrev S2x8208x5120 : Shape := ⟨3, ![2, 8208, 5120]⟩
abbrev S_ : Shape := ⟨0, ![]⟩
abbrev S2x8320x5120 : Shape := ⟨3, ![2, 8320, 5120]⟩
abbrev S16640x5120 : Shape := ⟨2, ![16640, 5120]⟩

abbrev nBuf : Space → Nat
  | .hbm => 28
  | .vmem => 0
  | .smem => 0
  | _ => 0

abbrev bufTy : (tb : Table) → Fin (tcTables nBuf tb) → BufTy
  | .hbm, ⟨0, _⟩ => ⟨S2x8208x5120, .f32⟩
  | .hbm, ⟨1, _⟩ => ⟨S2x8208x5120, .f32⟩
  | .hbm, ⟨2, _⟩ => ⟨S2x8208x5120, .f32⟩
  | .hbm, ⟨3, _⟩ => ⟨S2x8208x5120, .f32⟩
  | .hbm, ⟨4, _⟩ => ⟨S2x8208x5120, .f32⟩
  | .hbm, ⟨5, _⟩ => ⟨S2x8208x5120, .f32⟩
  | .hbm, ⟨6, _⟩ => ⟨S_, .f32⟩
  | .hbm, ⟨7, _⟩ => ⟨S2x8208x5120, .f32⟩
  | .hbm, ⟨8, _⟩ => ⟨S2x8208x5120, .f32⟩
  | .hbm, ⟨9, _⟩ => ⟨S2x8208x5120, .f32⟩
  | .hbm, ⟨10, _⟩ => ⟨S_, .f32⟩
  | .hbm, ⟨11, _⟩ => ⟨S2x8208x5120, .f32⟩
  | .hbm, ⟨12, _⟩ => ⟨S2x8208x5120, .f32⟩
  | .hbm, ⟨13, _⟩ => ⟨S2x8208x5120, .f32⟩
  | .hbm, ⟨14, _⟩ => ⟨S_, .f32⟩
  | .hbm, ⟨15, _⟩ => ⟨S2x8208x5120, .f32⟩
  | .hbm, ⟨16, _⟩ => ⟨S2x8208x5120, .f32⟩
  | .hbm, ⟨17, _⟩ => ⟨S_, .f32⟩
  | .hbm, ⟨18, _⟩ => ⟨S2x8208x5120, .f32⟩
  | .hbm, ⟨19, _⟩ => ⟨S2x8208x5120, .f32⟩
  | .hbm, ⟨20, _⟩ => ⟨S2x8208x5120, .f32⟩
  | .hbm, ⟨21, _⟩ => ⟨S2x8208x5120, .f32⟩
  | .hbm, ⟨22, _⟩ => ⟨S2x8208x5120, .f32⟩
  | .hbm, ⟨23, _⟩ => ⟨S_, .i32⟩
  | .hbm, ⟨24, _⟩ => ⟨S_, .f32⟩
  | .hbm, ⟨25, _⟩ => ⟨S2x8320x5120, .f32⟩
  | .hbm, ⟨26, _⟩ => ⟨S16640x5120, .f32⟩
  | .hbm, ⟨27, _⟩ => ⟨S16640x5120, .bf16⟩
  | _, _ => ⟨S2x8208x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== FirstKernel.lean ====
abbrev S2x8192x4096 : Shape := ⟨3, ![2, 8192, 4096]⟩
abbrev S16x4096 : Shape := ⟨2, ![16, 4096]⟩
abbrev S4096 : Shape := ⟨1, ![4096]⟩
abbrev S16384x4096 : Shape := ⟨2, ![16384, 4096]⟩
abbrev S1x4096 : Shape := ⟨2, ![1, 4096]⟩
abbrev S16640x4096 : Shape := ⟨2, ![16640, 4096]⟩
abbrev S128x4096 : Shape := ⟨2, ![128, 4096]⟩
abbrev S112x4096 : Shape := ⟨2, ![112, 4096]⟩
abbrev S128 : Shape := ⟨1, ![128]⟩
abbrev S128x1 : Shape := ⟨2, ![128, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S16x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16640x4096, .f32⟩
  | .hbm, ⟨6, _⟩ => ⟨S16640x4096, .bf16⟩
  | .local _ .vmem, ⟨0, _⟩ => ⟨S128x4096, .f32⟩
  | .local _ .vmem, ⟨1, _⟩ => ⟨S128x4096, .f32⟩
  | .local _ .vmem, ⟨2, _⟩ => ⟨S16x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 65], ![false, false]⟩

def k0_mult1 (i : grid0.Coords) : BitVec 32 :=
  let arg0 : BitVec 32 := BitVec.ofNat 32 (i 0).val
  let c8192_i32 : BitVec 32 := 8192#32
  let v0 : BitVec 32 := Scalar.muli arg0 c8192_i32
  let arg1 : BitVec 32 := BitVec.ofNat 32 (i 1).val
  let c128_i32 : BitVec 32 := 128#32
  let v1 : BitVec 32 := Scalar.muli arg1 c128_i32
  let c128_i32_0 : BitVec 32 := 128#32
  let v2 : BitVec 32 := Scalar.subi v1 c128_i32_0
  let c0_i32 : BitVec 32 := 0#32
  let v3 : BitVec 32 := Scalar.maxsi v2 c0_i32
  let v4 : BitVec 32 := Scalar.addi v0 v3
  v4
def cc0_transform_0 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c128_i32 : BitVec 32 := 128#32
  let v1 : BitVec 32 := Scalar.muli arg1 c128_i32
  let c128_i32_0 : BitVec 32 := 128#32
  let v2 : BitVec 32 := Scalar.subi v1 c128_i32_0
  let c0_i32 : BitVec 32 := 0#32
  let v3 : BitVec 32 := Scalar.maxsi v2 c0_i32
  let v4 : BitVec 32 := Scalar.addi v0 v3
  let v5 : BitVec 32 := v4
  let c0_i32_1 : BitVec 32 := 0#32
  let c0_i32_2 : BitVec 32 := 0#32
  ![v5.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FirstReferenceIdeal.lean ====
abbrev S2x8192x4096 : Shape := ⟨3, ![2, 8192, 4096]⟩
abbrev S16x4096 : Shape := ⟨2, ![16, 4096]⟩
abbrev S4096 : Shape := ⟨1, ![4096]⟩
abbrev S1x16x4096 : Shape := ⟨3, ![1, 16, 4096]⟩
abbrev S2x16x4096 : Shape := ⟨3, ![2, 16, 4096]⟩
abbrev S2x8208x4096 : Shape := ⟨3, ![2, 8208, 4096]⟩
abbrev S_ : Shape := ⟨0, ![]⟩
abbrev S2x8208 : Shape := ⟨2, ![2, 8208]⟩
abbrev S2x8208x1 : Shape := ⟨3, ![2, 8208, 1]⟩
abbrev S1x1x4096 : Shape := ⟨3, ![1, 1, 4096]⟩
abbrev S2x8320x4096 : Shape := ⟨3, ![2, 8320, 4096]⟩
abbrev S16640x4096 : Shape := ⟨2, ![16640, 4096]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16x4096, .f32⟩
  | .hbm, ⟨2, _⟩ => ⟨S4096, .f32⟩
  | .hbm, ⟨3, _⟩ => ⟨S1x16x4096, .f32⟩
  | .hbm, ⟨4, _⟩ => ⟨S2x16x4096, .f32⟩
  | .hbm, ⟨5, _⟩ => ⟨S2x8208x4096, .f32⟩
  | .hbm, ⟨6, _⟩ => ⟨S2x8208x4096, .f32⟩
  | .hbm, ⟨7, _⟩ => ⟨S_, .f32⟩
  | .hbm, ⟨8, _⟩ => ⟨S2x8208, .f32⟩
  | .hbm, ⟨9, _⟩ => ⟨S2x8208x1, .f32⟩
  | .hbm, ⟨10, _⟩ => ⟨S_, .f32⟩
  | .hbm, ⟨11, _⟩ => ⟨S2x8208x1, .f32⟩
  | .hbm, ⟨12, _⟩ => ⟨S2x8208x1, .f32⟩
  | .hbm, ⟨13, _⟩ => ⟨S_, .f32⟩
  | .hbm, ⟨14, _⟩ => ⟨S2x8208x1, .f32⟩
  | .hbm, ⟨15, _⟩ => ⟨S2x8208x1, .f32⟩
  | .hbm, ⟨16, _⟩ => ⟨S2x8208x1, .f32⟩
  | .hbm, ⟨17, _⟩ => ⟨S2x8208x4096, .f32⟩
  | .hbm, ⟨18, _⟩ => ⟨S2x8208x4096, .f32⟩
  | .hbm, ⟨19, _⟩ => ⟨S1x1x4096, .f32⟩
  | .hbm, ⟨20, _⟩ => ⟨S2x8208x4096, .f32⟩
  | .hbm, ⟨21, _⟩ => ⟨S2x8208x4096, .f32⟩
  | .hbm, ⟨22, _⟩ => ⟨S_, .i32⟩
  | .hbm, ⟨23, _⟩ => ⟨S_, .f32⟩
  | .hbm, ⟨24, _⟩ => ⟨S2x8320x4096, .f32⟩
  | .hbm, ⟨25, _⟩ => ⟨S16640x4096, .f32⟩
  | .hbm, ⟨26, _⟩ => ⟨S_, .i32⟩
  | .hbm, ⟨27, _⟩ => ⟨S_, .f32⟩
  | .hbm, ⟨28, _⟩ => ⟨S2x8320x4096, .f32⟩
  | .hbm, ⟨29, _⟩ => ⟨S16640x4096, .f32⟩
  | .hbm, ⟨30, _⟩ => ⟨S16640x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.OkKernelIdeal.lean ====
/- The experts' weight blocks are inside their arrays when every token block's group is one of the four. -/
module

public import proofs.«01_k».proof.Proof.Gen.KernelIdeal.Frame

@[expose] public section

set_option maxRecDepth 16384

noncomputable section

namespace Cert.OkKernelIdeal

open Cert.KernelIdeal Cert.KernelIdeal.Gen Idealize.ShloMosaic Idealize.ShloMosaic.TcCoe

variable {F : FTy → Type} [FloatOps F]

theorem off_eq (i : grid0.Coords) : (Scalar.indexCast (BitVec.ofNat 32 (i 0).val)).toNat = (i 0).val := by
  have hi : (i 0).val < 36 := (i 0).isLt
  simp [Scalar.indexCast]
  omega

/-- The table's index of token block `g`. -/
def place (g : Fin 36) : S36.Idx := fun a => match a with | ⟨0, _⟩ => g

theorem at_eq (pf : pre0.Contents (Elt F)) (i : grid0.Coords) (h : ∀ a, (k0_off1 i) a + S1.size a ≤ S36.size a) (h' : S1.numel = 1) :
    pf.at 0 (Rect.unit (s := S36) (k0_off1 i) S1.size h) h' = pf 0 (place (i 0)) := by
  refine congrArg (pf 0) (funext fun a => Fin.ext ?_)
  match a with
  | ⟨0, _⟩ =>
    show (Scalar.indexCast (BitVec.ofNat 32 (i 0).val)).toNat + 1 * 0 = (i 0).val
    rw [off_eq]; omega

/-- The block index of an expert's weights: eight times the group, plus the expert. -/
theorem word_nat (w : BitVec 32) (hw : w.toNat < 4) (e : ℕ) (he : e < 8) :
    (Scalar.addi (Scalar.addi 0#32 (Scalar.muli w 8#32)) (BitVec.ofNat 32 e)).toNat = w.toNat * 8 + e := by
  simp [Scalar.addi, Scalar.muli, IntOp.addi, IntOp.muli, BitVec.toNat_add, BitVec.toNat_mul]
  omega

theorem map2 (pf : pre0.Contents (Elt F)) (i : grid0.Coords) (hw : BitVec.toNat (pf 0 (place (i 0))) < 4) :
    cc0_transform_2 k0_off1_inb numel1_S1 pf i = ![BitVec.toNat (pf 0 (place (i 0))) * 8 + (i 1).val, 0, 0] := by
  show ![(Scalar.addi (Scalar.addi 0#32 (Scalar.muli (pf.at 0 (Rect.unit (s := S36) (k0_off1 i) S1.size (k0_off1_inb i)) numel1_S1) 8#32)) (BitVec.ofNat 32 (i 1).val)).toNat, 0, 0] = _
  rw [at_eq, word_nat _ hw _ (i 1).isLt]

theorem map3 (pf : pre0.Contents (Elt F)) (i : grid0.Coords) (hw : BitVec.toNat (pf 0 (place (i 0))) < 4) :
    cc0_transform_3 k0_off1_inb numel1_S1 pf i = ![BitVec.toNat (pf 0 (place (i 0))) * 8 + (i 1).val, 0, 0] := by
  show ![(Scalar.addi (Scalar.addi 0#32 (Scalar.muli (pf.at 0 (Rect.unit (s := S36) (k0_off1 i) S1.size (k0_off1_inb i)) numel1_S1) 8#32)) (BitVec.ofNat 32 (i 1).val)).toNat, 0, 0] = _
  rw [at_eq, word_nat _ hw _ (i 1).isLt]

/-- The windows' side condition, of a table whose words are all below four. -/
theorem ok_of_lt (pf : pre0.Contents (Elt F)) (hw : ∀ g : Fin 36, BitVec.toNat (pf 0 (place g)) < 4) : ok0 (F := F) pf := by
  constructor
  · intro i
    have h8 : (i 1).val < 8 := (i 1).isLt
    have hg := hw (i 0)
    refine ⟨fun a => ?_, .inr (Affine.block_words_dvd (of_decide_eq_true rfl) (by decide))⟩
    rw [map2 pf i hg]
    match a with
    | ⟨0, _⟩ => show (BitVec.toNat (pf 0 (place (i 0))) * 8 + (i 1).val + 1) * 1 ≤ 32; omega
    | ⟨1, _⟩ => show (0 + 1) * 4096 ≤ 4096; omega
    | ⟨2, _⟩ => show (0 + 1) * 512 ≤ 512; omega
  · intro i
    have h8 : (i 1).val < 8 := (i 1).isLt
    have hg := hw (i 0)
    refine ⟨fun a => ?_, .inr (Affine.block_words_dvd (of_decide_eq_true rfl) (by decide))⟩
    rw [map3 pf i hg]
    match a with
    | ⟨0, _⟩ => show (BitVec.toNat (pf 0 (place (i 0))) * 8 + (i 1).val + 1) * 1 ≤ 32; omega
    | ⟨1, _⟩ => show (0 + 1) * 256 ≤ 256; omega
    | ⟨2, _⟩ => show (0 + 1) * 4096 ≤ 4096; omega

/-- The same of the launch memory. -/
theorem ok_of_range (m : (ℓ : Loc nD τ sig) → Buf (Elt F) ℓ) (h : ∀ g : Fin 36, BitVec.toNat (m ((0 : Dev nD), main_arg0) (place g)) < 4) : Ok (F := F) m :=
  ok_of_lt (tbl m) fun g => by
    have e : tbl m 0 = m ((0 : Dev nD), main_arg0) := V_main_arg0 m 0
    rw [e]; exact h g

end Cert.OkKernelIdeal

end
-- ==== Proof.Experts.lean ====
/- The routed experts: what one pass over the experts of a block of tokens adds, and the array that the kernel leaves. -/
module

public import proofs.«01_k».proof.Proof.OkKernelIdeal
public import Idealize.ShloMosaic.Lib.Pointwise
public import Idealize.ShloMosaic.Lib.Pipeline.Value

@[expose] public section

set_option maxRecDepth 16384

noncomputable section

namespace Cert.Experts

open Cert.KernelIdeal Cert.KernelIdeal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-- A load of the whole of a whole buffer reads its contents. -/
theorem readAt_whole {κ : Kind} {sp : Space} {S : Shape} {e : EltTy} {off : Fin S.rank → Nat} (hz : off = fun _ => 0) {arg : Memref sig κ sp S e} (h : arg.IsWhole)
    (x : Vec F S e) {inb : ∀ a, off a + S.size a ≤ S.size a} :
    View.readAt (Elt F) arg.view (Rect.unit (s := S) off S.size inb).toLoadRect (h.unread x) = x := by
  rw [View.readAt_eq_ld, h.read_unread, View.ld_unit_zero hz]

/-- The table's word as the body loads it. -/
theorem word_at (c : Dev nD) (i : grid0.Coords) (xt0 : TbBuf0 (F := F) c tbM0_0) {h} {h'} :
    View.readAt (Elt F) tbM0_0.view (Rect.unit (s := S36) ![(Scalar.indexCast (BitVec.ofNat 32 (i 0).val)).toNat] S1.size h).toLoadRect xt0 (Shape.Idx.first h')
      = xt0 (OkKernelIdeal.place (i 0)) := by
  refine congrArg xt0 (funext fun a => Fin.ext ?_)
  match a with
  | ⟨0, _⟩ =>
    show (Scalar.indexCast (BitVec.ofNat 32 (i 0).val)).toNat + 1 * 0 = (i 0).val
    rw [OkKernelIdeal.off_eq]; omega

/-- At the first expert: zero plus the expert's part. -/
theorem first (c : Dev nD) (i : grid0.Coords) (arg3 : Memref sig .tc .vmem S512x4096 .bf16) (harg3 : arg3.IsWhole) (arg4 : Memref sig .tc .vmem S512x128 .f32) (harg4 : arg4.IsWhole) (arg5 : Memref sig .tc .vmem S1x4096x512 .bf16) (harg5 : arg5.IsWhole) (arg6 : Memref sig .tc .vmem S1x256x4096 .bf16) (harg6 : arg6.IsWhole) (arg7 : Memref sig .tc .vmem S512x4096 .bf16) (harg7 : arg7.IsWhole) (arg8 : Memref sig .tc .vmem S512x4096 .f32) (harg8 : arg8.IsWhole) (hc0 : cond0_0 i) (hc1 : ¬cond0_1 i)
    (x0 : Vec F S512x4096 .bf16) (x1 : Vec F S512x128 .f32) (x2 : Vec F S1x4096x512 .bf16) (x3 : Vec F S1x256x4096 .bf16) (xt0 : TbBuf0 (F := F) c tbM0_0) :
    sout0_A_0 c i arg3 harg3 arg4 harg4 arg5 harg5 arg6 harg6 arg7 harg7 arg8 harg8 hc0 hc1 x0 x1 x2 x3 xt0 = k0_pay1 (k0_pay4 i x0 x2 x1 (xt0 (OkKernelIdeal.place (i 0))) k0_pay3 x3) := by
  unfold sout0_A_0
  rw [View.read_writes_junk_eq_canon]
  unfold kernelRun0_A
  dsimp only
  sl_unfold_words
  refine (View.canon_cons_unit_zero (S := S512x4096) hz2 _ _ _).trans ?_
  rw [readAt_whole hz2 harg3, readAt_whole hz3 harg5, readAt_whole hz2 harg4, View.readCov_cons_toLoadRect, readAt_whole hz3 harg6]
  exact congrArg (fun w => k0_pay1 (k0_pay4 i x0 x2 x1 w k0_pay3 x3)) (word_at c i xt0)

/-- At a later expert: the running sum plus the expert's part. -/
theorem middle (c : Dev nD) (i : grid0.Coords) (arg3 : Memref sig .tc .vmem S512x4096 .bf16) (harg3 : arg3.IsWhole) (arg4 : Memref sig .tc .vmem S512x128 .f32) (harg4 : arg4.IsWhole) (arg5 : Memref sig .tc .vmem S1x4096x512 .bf16) (harg5 : arg5.IsWhole) (arg6 : Memref sig .tc .vmem S1x256x4096 .bf16) (harg6 : arg6.IsWhole) (arg7 : Memref sig .tc .vmem S512x4096 .bf16) (harg7 : arg7.IsWhole) (arg8 : Memref sig .tc .vmem S512x4096 .f32) (harg8 : arg8.IsWhole) (hc0 : ¬cond0_0 i) (hc1 : ¬cond0_1 i)
    (x0 : Vec F S512x4096 .bf16) (x1 : Vec F S512x128 .f32) (x2 : Vec F S1x4096x512 .bf16) (x3 : Vec F S1x256x4096 .bf16) (xt0 : TbBuf0 (F := F) c tbM0_0) (xs0 : Vec F S512x4096 .f32) :
    sout0_B_0 c i arg3 harg3 arg4 harg4 arg5 harg5 arg6 harg6 arg7 harg7 arg8 harg8 hc0 hc1 x0 x1 x2 x3 xt0 xs0 = k0_pay1 (k0_pay4 i x0 x2 x1 (xt0 (OkKernelIdeal.place (i 0))) xs0 x3) := by
  unfold sout0_B_0
  rw [View.read_writes_junk_eq_canon]
  unfold kernelRun0_B
  dsimp only
  sl_unfold_words
  refine (View.canon_cons_unit_zero (S := S512x4096) hz2 _ _ _).trans ?_
  rw [readAt_whole hz2 harg3, readAt_whole hz3 harg5, readAt_whole hz2 harg4, readAt_whole hz2 harg8, readAt_whole hz3 harg6]
  exact congrArg (fun w => k0_pay1 (k0_pay4 i x0 x2 x1 w xs0 x3)) (word_at c i xt0)

/-- At the last expert the rounded running sum goes to the result's block. -/
theorem last (c : Dev nD) (i : grid0.Coords) (arg3 : Memref sig .tc .vmem S512x4096 .bf16) (harg3 : arg3.IsWhole) (arg4 : Memref sig .tc .vmem S512x128 .f32) (harg4 : arg4.IsWhole) (arg5 : Memref sig .tc .vmem S1x4096x512 .bf16) (harg5 : arg5.IsWhole) (arg6 : Memref sig .tc .vmem S1x256x4096 .bf16) (harg6 : arg6.IsWhole) (arg7 : Memref sig .tc .vmem S512x4096 .bf16) (harg7 : arg7.IsWhole) (arg8 : Memref sig .tc .vmem S512x4096 .f32) (harg8 : arg8.IsWhole) (hc0 : ¬cond0_0 i) (hc1 : cond0_1 i)
    (x0 : Vec F S512x4096 .bf16) (x1 : Vec F S512x128 .f32) (x2 : Vec F S1x4096x512 .bf16) (x3 : Vec F S1x256x4096 .bf16) (xt0 : TbBuf0 (F := F) c tbM0_0) (xs0 : Vec F S512x4096 .f32) :
    out0_C_4 c i arg3 harg3 arg4 harg4 arg5 harg5 arg6 harg6 arg7 harg7 arg8 harg8 hc0 hc1 x0 x1 x2 x3 xt0 xs0 = k0_pay2 (k0_pay1 (k0_pay4 i x0 x2 x1 (xt0 (OkKernelIdeal.place (i 0))) xs0 x3)) := by
  unfold out0_C_4
  rw [View.read_writes_junk_eq_canon]
  unfold kernelRun0_C
  dsimp only
  sl_unfold_words
  refine (View.canon_cons_unit_zero (S := S512x4096) hz2 _ _ _).trans ?_
  rw [View.readCov_cons_toLoadRect, readAt_whole hz2 harg3, readAt_whole hz3 harg5, readAt_whole hz2 harg4, readAt_whole hz2 harg8, readAt_whole hz3 harg6]
  exact congrArg (fun w => k0_pay2 (k0_pay1 (k0_pay4 i x0 x2 x1 w xs0 x3))) (word_at c i xt0)

end Pieces

end Cert.Experts
-- ==== Proof.ExpertsRun.lean ====
/- The routed experts: the array the kernel leaves, as a sum over a block's eight experts. -/
module

public import proofs.«01_k».proof.Proof.Experts

@[expose] public section

set_option maxRecDepth 16384

noncomputable section

namespace Cert.Experts

open Cert.KernelIdeal Cert.KernelIdeal.Gen Idealize.ShloMosaic Idealize.ShloMosaic.TcCoe Idealize.SL.Sem
open Idealize.ShloMosaic.Pipeline (Dat)

/-! ## The mathematics -/

/-- A token's product with one column of an expert's first or third matrix. -/
def proj (x : FVec Ideal S18432x4096 .f32) (w : FVec Ideal S4x8x4096x256 .f32) (g : Fin 4) (e : Fin 8) (n : Fin 18432) (f : Fin 256) : EReal :=
  ∑ k : Fin 4096, x (ix2 n k) * w (ix4 g e k f)

/-- An expert's weighted hidden value. -/
def hidden (x : FVec Ideal S18432x4096 .f32) (comb : FVec Ideal S18432x4x8 .f32) (w1 w3 : FVec Ideal S4x8x4096x256 .f32)
    (g : Fin 4) (e : Fin 8) (n : Fin 18432) (f : Fin 256) : EReal :=
  proj x w1 g e n f * Ideal.logistic (proj x w1 g e n f) * proj x w3 g e n f * comb (ix3 n g e)

/-- An expert's part of a token's result. -/
def expert (x : FVec Ideal S18432x4096 .f32) (comb : FVec Ideal S18432x4x8 .f32) (w1 w3 : FVec Ideal S4x8x4096x256 .f32) (w2 : FVec Ideal S4x8x256x4096 .f32)
    (g : Fin 4) (n : Fin 18432) (d : Fin 4096) (e : Fin 8) : EReal :=
  ∑ f : Fin 256, hidden x comb w1 w3 g e n f * w2 (ix4 g e f d)

/-! ## One step of the body -/

/-- One expert's part of a block's result over the block's inputs: the row's weight for the expert is read off its lanes. -/
def part (i : grid0.Coords) (x0 : Vec Ideal S512x4096 .bf16) (x1 : Vec Ideal S512x128 .f32) (x2 : Vec Ideal S1x4096x512 .bf16)
    (x3 : Vec Ideal S1x256x4096 .bf16) (w : BitVec 32) (r : Fin 512) (d : Fin 4096) : EReal :=
  ∑ f : Fin 256, (((∑ k : Fin 4096, x0 (ix2 r k) * x2 (ix3 0 k ⟨f.val, by omega⟩)) * Ideal.logistic (∑ k : Fin 4096, x0 (ix2 r k) * x2 (ix3 0 k ⟨f.val, by omega⟩))
      * ∑ k : Fin 4096, x0 (ix2 r k) * x2 (ix3 0 k ⟨256 + f.val, by omega⟩))
    * ∑ l : Fin 128, Scalar.select (IntOp.cmpi .eq (BitVec.ofNat 32 l.val)
        (Scalar.addi (Scalar.addi 4#32 (Scalar.muli w 8#32)) (BitVec.ofNat 32 (i 1).val))) (x1 (ix2 r l)) 0) * x3 (ix3 0 f d)

theorem step (i : grid0.Coords) (x0 : Vec Ideal S512x4096 .bf16) (x1 : Vec Ideal S512x128 .f32) (x2 : Vec Ideal S1x4096x512 .bf16)
    (x3 : Vec Ideal S1x256x4096 .bf16) (w : BitVec 32) (acc : Vec Ideal S512x4096 .f32) (r : Fin 512) (d : Fin 4096) :
    k0_pay1 (k0_pay4 (F := Ideal) i x0 x2 x1 w acc x3) (ix2 r d) = acc (ix2 r d) + part i x0 x1 x2 x3 w r d := by
  pointwise [k0_pay1, k0_pay4]
  rfl

theorem zero_step (r : Fin 512) (d : Fin 4096) : k0_pay3 (F := Ideal) (ix2 r d) = 0 := by
  pointwise [k0_pay3]

theorem round_step (v : FVec Ideal S512x4096 .f32) (r : Fin 512) (d : Fin 4096) : k0_pay2 (F := Ideal) v (ix2 r d) = v (ix2 r d) := by
  pointwise [k0_pay2]

/-- The lane an expert's weights are in. -/
theorem lane_nat (w : BitVec 32) (hw : w.toNat < 4) (e : ℕ) (he : e < 8) :
    Scalar.addi (Scalar.addi 4#32 (Scalar.muli w 8#32)) (BitVec.ofNat 32 e) = BitVec.ofNat 32 (4 + w.toNat * 8 + e) := by
  apply BitVec.eq_of_toNat_eq
  simp [Scalar.addi, Scalar.muli, IntOp.addi, IntOp.muli, BitVec.toNat_add, BitVec.toNat_mul]

/-- The sum over the lanes, all but one replaced by zero, is that lane's value. -/
theorem lanes (w : BitVec 32) (hw : w.toNat < 4) (e : ℕ) (he : e < 8) (f : Fin 128 → EReal) :
    (∑ l : Fin 128, Scalar.select (IntOp.cmpi .eq (BitVec.ofNat 32 l.val)
        (Scalar.addi (Scalar.addi 4#32 (Scalar.muli w 8#32)) (BitVec.ofNat 32 e))) (f l) 0) = f ⟨4 + w.toNat * 8 + e, by omega⟩ := by
  rw [lane_nat w hw e he]
  rw [Finset.sum_eq_single (⟨4 + w.toNat * 8 + e, by omega⟩ : Fin 128)]
  · simp [Scalar.select, IntOp.cmpi]
  · intro l _ hl
    have h : ¬ BitVec.ofNat 32 l.val = BitVec.ofNat 32 (4 + w.toNat * 8 + e) := fun h => hl (Fin.ext (by
      have := congrArg BitVec.toNat h
      simp only [BitVec.toNat_ofNat] at this
      have := l.isLt
      show l.val = 4 + w.toNat * 8 + e
      omega))
    have hb : (BitVec.ofNat 32 l.val == BitVec.ofNat 32 (4 + w.toNat * 8 + e)) = false := beq_eq_false_iff_ne.mpr h
    simp [Scalar.select, IntOp.cmpi, hb]
  · intro h; exact absurd (Finset.mem_univ _) h

/-! ## The blocks -/

variable (m : (ℓ : Loc nD τ sig) → Buf (Elt Ideal) ℓ) (ρ : Dev nD → PrngReg)

/-- Every token block's group is one of the four. -/
abbrev InRange : Prop := ∀ g : Fin 36, BitVec.toNat (m ((0 : Dev nD), main_arg0) (OkKernelIdeal.place g)) < 4

/-- A token block's group. -/
def grp (h : InRange m) (g : Fin 36) : Fin 4 := ⟨BitVec.toNat (m ((0 : Dev nD), main_arg0) (OkKernelIdeal.place g)), h g⟩

theorem tbl_eq : tbl m 0 = m ((0 : Dev nD), main_arg0) := V_main_arg0 m 0

theorem lt_N (t : Fin grid0.N) : t.val < 288 := lt_of_lt_of_eq t.isLt N_0

theorem co0 (t : Fin grid0.N) : (grid0.coords t 0).val = t.val / 8 := by
  have e : (grid0.coords t 0).val = t.val / 8 % 36 := Pipeline.Grid.coords_val t 0 (by decide) rfl
  have := lt_N t
  omega

theorem co1 (t : Fin grid0.N) : (grid0.coords t 1).val = t.val % 8 := by
  have e : (grid0.coords t 1).val = t.val / 1 % 8 := Pipeline.Grid.coords_val t 1 (by decide) rfl
  omega

theorem maps (t : Fin grid0.N) : cc0_transform_0 (grid0.coords t) (0 : Fin 2) = t.val / 8 ∧ cc0_transform_0 (grid0.coords t) (1 : Fin 2) = 0
    ∧ cc0_transform_1 (grid0.coords t) (0 : Fin 2) = t.val / 8 ∧ cc0_transform_1 (grid0.coords t) (1 : Fin 2) = 0
    ∧ cc0_transform_4 (grid0.coords t) (0 : Fin 2) = t.val / 8 ∧ cc0_transform_4 (grid0.coords t) (1 : Fin 2) = 0 := by
  have h : (BitVec.ofNat 32 (grid0.coords t 0).val).toNat = t.val / 8 := by
    have := lt_N t
    rw [co0, BitVec.toNat_ofNat]; omega
  exact ⟨h, rfl, h, rfl, h, rfl⟩

section Blocks
variable (hO : Ok m) (h : InRange m) (c : Dev nD)

theorem iblk0 (t : Fin (cfgM m hO).N) (r : Fin 512) (k : Fin 4096) :
    iblk m hO c 0 t (ix2 r k) = V m c main_v5 (ix2 ⟨t.val / 8 * 512 + r.val, by have := lt_N t; omega⟩ k) := by
  obtain ⟨e0, e1, -⟩ := maps t
  show V m c main_v5 ((((cfgM m hO).win 0).blk t).view.emb (ix2 r k)) = _
  refine congrArg (V m c main_v5) (funext fun a => Fin.ext ?_)
  match a with
  | ⟨0, _⟩ => show cc0_transform_0 (grid0.coords t) (0 : Fin 2) * 512 + 1 * r.val = t.val / 8 * 512 + r.val; omega
  | ⟨1, _⟩ => show cc0_transform_0 (grid0.coords t) (1 : Fin 2) * 4096 + 1 * k.val = k.val; omega

theorem iblk1 (t : Fin (cfgM m hO).N) (r : Fin 512) (l : Fin 128) :
    iblk m hO c 1 t (ix2 r l) = V m c main_v4 (ix2 ⟨t.val / 8 * 512 + r.val, by have := lt_N t; omega⟩ l) := by
  obtain ⟨-, -, e0, e1, -⟩ := maps t
  show V m c main_v4 ((((cfgM m hO).win 1).blk t).view.emb (ix2 r l)) = _
  refine congrArg (V m c main_v4) (funext fun a => Fin.ext ?_)
  match a with
  | ⟨0, _⟩ => show cc0_transform_1 (grid0.coords t) (0 : Fin 2) * 512 + 1 * r.val = t.val / 8 * 512 + r.val; omega
  | ⟨1, _⟩ => show cc0_transform_1 (grid0.coords t) (1 : Fin 2) * 128 + 1 * l.val = l.val; omega

theorem blockOf (h : InRange m) (t : Fin grid0.N) : BitVec.toNat (tbl m 0 (OkKernelIdeal.place (grid0.coords t 0))) * 8 + (grid0.coords t 1).val
    = (grp m h ⟨t.val / 8, by have := lt_N t; omega⟩).val * 8 + t.val % 8 := by
  rw [tbl_eq, co1, show grid0.coords t 0 = (⟨t.val / 8, by have := lt_N t; omega⟩ : Fin 36) from Fin.ext (co0 t)]
  rfl

theorem iblk2 (t : Fin (cfgM m hO).N) (k : Fin 4096) (l : Fin 512) :
    iblk m hO c 2 t (ix3 0 k l) = V m c main_v2 (ix3 ⟨(grp m h ⟨t.val / 8, by have := lt_N t; omega⟩).val * 8 + t.val % 8, by omega⟩ k l) := by
  have hw : BitVec.toNat (tbl m 0 (OkKernelIdeal.place (grid0.coords t 0))) < 4 := by rw [tbl_eq]; exact h _
  have e0 : cc0_transform_2 k0_off1_inb numel1_S1 (tbl m) (grid0.coords t) (0 : Fin 3) = _ := (congrFun (OkKernelIdeal.map2 (tbl m) (grid0.coords t) hw) 0).trans (blockOf m h t)
  have e1 : cc0_transform_2 k0_off1_inb numel1_S1 (tbl m) (grid0.coords t) (1 : Fin 3) = 0 := congrFun (OkKernelIdeal.map2 (tbl m) (grid0.coords t) hw) 1
  have e2 : cc0_transform_2 k0_off1_inb numel1_S1 (tbl m) (grid0.coords t) (2 : Fin 3) = 0 := congrFun (OkKernelIdeal.map2 (tbl m) (grid0.coords t) hw) 2
  show V m c main_v2 ((((cfgM m hO).win 2).blk t).view.emb (ix3 0 k l)) = _
  refine congrArg (V m c main_v2) (funext fun a => Fin.ext ?_)
  match a with
  | ⟨0, _⟩ => exact (show cc0_transform_2 k0_off1_inb numel1_S1 (tbl m) (grid0.coords t) (0 : Fin 3) * 1 + 1 * 0 = _ by rw [e0, Nat.mul_one]; rfl)
  | ⟨1, _⟩ => exact (show cc0_transform_2 k0_off1_inb numel1_S1 (tbl m) (grid0.coords t) (1 : Fin 3) * 4096 + 1 * k.val = k.val by rw [e1, Nat.zero_mul, Nat.zero_add, Nat.one_mul])
  | ⟨2, _⟩ => exact (show cc0_transform_2 k0_off1_inb numel1_S1 (tbl m) (grid0.coords t) (2 : Fin 3) * 512 + 1 * l.val = l.val by rw [e2, Nat.zero_mul, Nat.zero_add, Nat.one_mul])

theorem iblk3 (t : Fin (cfgM m hO).N) (k : Fin 256) (l : Fin 4096) :
    iblk m hO c 3 t (ix3 0 k l) = V m c main_v7 (ix3 ⟨(grp m h ⟨t.val / 8, by have := lt_N t; omega⟩).val * 8 + t.val % 8, by omega⟩ k l) := by
  have hw : BitVec.toNat (tbl m 0 (OkKernelIdeal.place (grid0.coords t 0))) < 4 := by rw [tbl_eq]; exact h _
  have e0 : cc0_transform_3 k0_off1_inb numel1_S1 (tbl m) (grid0.coords t) (0 : Fin 3) = _ := (congrFun (OkKernelIdeal.map3 (tbl m) (grid0.coords t) hw) 0).trans (blockOf m h t)
  have e1 : cc0_transform_3 k0_off1_inb numel1_S1 (tbl m) (grid0.coords t) (1 : Fin 3) = 0 := congrFun (OkKernelIdeal.map3 (tbl m) (grid0.coords t) hw) 1
  have e2 : cc0_transform_3 k0_off1_inb numel1_S1 (tbl m) (grid0.coords t) (2 : Fin 3) = 0 := congrFun (OkKernelIdeal.map3 (tbl m) (grid0.coords t) hw) 2
  show V m c main_v7 ((((cfgM m hO).win 3).blk t).view.emb (ix3 0 k l)) = _
  refine congrArg (V m c main_v7) (funext fun a => Fin.ext ?_)
  match a with
  | ⟨0, _⟩ => exact (show cc0_transform_3 k0_off1_inb numel1_S1 (tbl m) (grid0.coords t) (0 : Fin 3) * 1 + 1 * 0 = _ by rw [e0, Nat.mul_one]; rfl)
  | ⟨1, _⟩ => exact (show cc0_transform_3 k0_off1_inb numel1_S1 (tbl m) (grid0.coords t) (1 : Fin 3) * 256 + 1 * k.val = k.val by rw [e1, Nat.zero_mul, Nat.zero_add, Nat.one_mul])
  | ⟨2, _⟩ => exact (show cc0_transform_3 k0_off1_inb numel1_S1 (tbl m) (grid0.coords t) (2 : Fin 3) * 4096 + 1 * l.val = l.val by rw [e2, Nat.zero_mul, Nat.zero_add, Nat.one_mul])

end Blocks

end Cert.Experts
end
-- ==== Proof.ExpertsVal.lean ====
/- The routed experts: the kernel's run, its result the sum over each block's eight experts. -/
module

public import proofs.«01_k».proof.Proof.ExpertsRun

@[expose] public section

set_option maxRecDepth 16384

noncomputable section

namespace Cert.Experts

open Cert.KernelIdeal Cert.KernelIdeal.Gen Idealize.ShloMosaic Idealize.ShloMosaic.TcCoe Idealize.SL.Sem
open Idealize.ShloMosaic.Pipeline (Dat)

/-! ## The arrays the host prepares -/

def w13Of (w1 w3 : FVec Ideal S4x8x4096x256 .f32) : FVec Ideal S32x4096x512 .bf16 :=
  shapeCast S32x4096x512 (truncf .bf16 (concatenate S4x8x4096x512 3 [⟨S4x8x4096x256, w1⟩, ⟨S4x8x4096x256, w3⟩] concatenates_S4x8x4096x256_S4x8x4096x256_S4x8x4096x512_d3) bitsLt_bf16_f32) shapeCasts_S4x8x4096x512_S32x4096x512

def csOf (comb : FVec Ideal S18432x4x8 .f32) : FVec Ideal S18432x128 .f32 :=
  pad S18432x128 ![0, 4] ![0, 92] ![0, 0] (shapeCast S18432x32 comb shapeCasts_S18432x4x8_S18432x32) (sitofp .f32 (constantI S_ 32 0#32)) pads_S18432x32_S18432x128_000_4920 h_S_

def xOf (x : FVec Ideal S18432x4096 .f32) : FVec Ideal S18432x4096 .bf16 := truncf .bf16 x bitsLt_bf16_f32

def w2Of (w2 : FVec Ideal S4x8x256x4096 .f32) : FVec Ideal S32x256x4096 .bf16 :=
  shapeCast S32x256x4096 (truncf .bf16 w2 bitsLt_bf16_f32) shapeCasts_S4x8x256x4096_S32x256x4096

theorem xOf_apply (x : FVec Ideal S18432x4096 .f32) (n : Fin 18432) (k : Fin 4096) : xOf x (ix2 n k) = x (ix2 n k) := by
  pointwise [xOf]

theorem w1_apply (w1 w3 : FVec Ideal S4x8x4096x256 .f32) (g : Fin 4) (e : ℕ) (he : e < 8) (k : Fin 4096) (f : Fin 256) :
    w13Of w1 w3 (ix3 (⟨g.val * 8 + e, by omega⟩ : Fin 32) k (⟨f.val, by omega⟩ : Fin 512)) = w1 (ix4 g ⟨e, he⟩ k f) := by
  pointwise [w13Of]
  exact congrArg₂ (fun a b => w1 (ix4 a b k f)) (Fin.ext (show (g.val * 8 + e) / 8 = g.val by omega)) (Fin.ext (show (g.val * 8 + e) % 8 = e by omega))

theorem w3_apply (w1 w3 : FVec Ideal S4x8x4096x256 .f32) (g : Fin 4) (e : ℕ) (he : e < 8) (k : Fin 4096) (f : Fin 256) :
    w13Of w1 w3 (ix3 (⟨g.val * 8 + e, by omega⟩ : Fin 32) k (⟨256 + f.val, by omega⟩ : Fin 512)) = w3 (ix4 g ⟨e, he⟩ k f) := by
  pointwise [w13Of]
  exact congrArg₂ (fun a b => w3 (ix4 a b k f)) (Fin.ext (show (g.val * 8 + e) / 8 = g.val by omega)) (Fin.ext (show (g.val * 8 + e) % 8 = e by omega))

theorem w2_apply (w2 : FVec Ideal S4x8x256x4096 .f32) (g : Fin 4) (e : ℕ) (he : e < 8) (f : Fin 256) (d : Fin 4096) :
    w2Of w2 (ix3 (⟨g.val * 8 + e, by omega⟩ : Fin 32) f d) = w2 (ix4 g ⟨e, he⟩ f d) := by
  pointwise [w2Of]
  exact congrArg₂ (fun a b => w2 (ix4 a b f d)) (Fin.ext (show (g.val * 8 + e) / 8 = g.val by omega)) (Fin.ext (show (g.val * 8 + e) % 8 = e by omega))

theorem cs_apply (comb : FVec Ideal S18432x4x8 .f32) (g : Fin 4) (e : ℕ) (he : e < 8) (n : Fin 18432) :
    csOf comb (ix2 n (⟨4 + g.val * 8 + e, by omega⟩ : Fin 128)) = comb (ix3 n g ⟨e, he⟩) := by
  pointwise [csOf]
  rw [dif_pos (by omega)]
  exact congrArg₂ (fun a b => comb (ix3 n a b)) (Fin.ext (show (4 + g.val * 8 + e - 4) / 8 = g.val by omega)) (Fin.ext (show (4 + g.val * 8 + e - 4) % 8 = e by omega))

variable (m : (ℓ : Loc nD τ sig) → Buf (Elt Ideal) ℓ) (ρ : Dev nD → PrngReg)

theorem V_v2 (c : Dev nD) : V m c main_v2 = w13Of (m ((c : Thread nD τ).loc main_arg3)) (m ((c : Thread nD τ).loc main_arg4)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

theorem V_v4 (c : Dev nD) : V m c main_v4 = csOf (m ((c : Thread nD τ).loc main_arg2)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

theorem V_v5 (c : Dev nD) : V m c main_v5 = xOf (m ((c : Thread nD τ).loc main_arg1)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

theorem V_v7 (c : Dev nD) : V m c main_v7 = w2Of (m ((c : Thread nD τ).loc main_arg5)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-! ## One expert's part, over the launched arrays -/

section Parts
variable (hO : Ok m) (h : InRange m) (c : Dev nD)

/-- The arguments, as the mathematics takes them. -/
abbrev aX : FVec Ideal S18432x4096 .f32 := m ((c : Thread nD τ).loc main_arg1)
abbrev aComb : FVec Ideal S18432x4x8 .f32 := m ((c : Thread nD τ).loc main_arg2)
abbrev aW1 : FVec Ideal S4x8x4096x256 .f32 := m ((c : Thread nD τ).loc main_arg3)
abbrev aW3 : FVec Ideal S4x8x4096x256 .f32 := m ((c : Thread nD τ).loc main_arg4)
abbrev aW2 : FVec Ideal S4x8x256x4096 .f32 := m ((c : Thread nD τ).loc main_arg5)

/-- A point's token. -/
abbrev row (t : Fin grid0.N) (r : Fin 512) : Fin 18432 := ⟨t.val / 8 * 512 + r.val, by have := lt_N t; omega⟩
/-- A point's token block. -/
abbrev blk (t : Fin grid0.N) : Fin 36 := ⟨t.val / 8, by have := lt_N t; omega⟩

/-- A point's blocks: its tokens, its tokens' weights, and its expert's two matrices. -/
def b0 (t : Fin (cfgM m hO).N) : Vec Ideal S512x4096 .bf16 := iblk m hO c 0 t
def b1 (t : Fin (cfgM m hO).N) : Vec Ideal S512x128 .f32 := iblk m hO c 1 t
def b2 (t : Fin (cfgM m hO).N) : Vec Ideal S1x4096x512 .bf16 := iblk m hO c 2 t
def b3 (t : Fin (cfgM m hO).N) : Vec Ideal S1x256x4096 .bf16 := iblk m hO c 3 t
/-- A point's word of the table. -/
abbrev word (t : Fin grid0.N) : BitVec 32 := tbl m 0 (OkKernelIdeal.place (grid0.coords t 0))

theorem b0_apply (t : Fin (cfgM m hO).N) (r : Fin 512) (k : Fin 4096) : b0 m hO c t (ix2 r k) = aX m c (ix2 (row t r) k) :=
  (iblk0 m hO c t r k).trans ((congrFun (V_v5 m c) _).trans (xOf_apply ..))

theorem b1_apply (t : Fin (cfgM m hO).N) (r : Fin 512) (l : Fin 128) : b1 m hO c t (ix2 r l) = csOf (aComb m c) (ix2 (row t r) l) :=
  (iblk1 m hO c t r l).trans (congrFun (V_v4 m c) _)

theorem b2_lo (t : Fin (cfgM m hO).N) (k : Fin 4096) (f : Fin 256) :
    b2 m hO c t (ix3 0 k ⟨f.val, by omega⟩) = aW1 m c (ix4 (grp m h (blk t)) ⟨t.val % 8, Nat.mod_lt _ (by omega)⟩ k f) :=
  (iblk2 m hO h c t k _).trans ((congrFun (V_v2 m c) _).trans (w1_apply ..))

theorem b2_hi (t : Fin (cfgM m hO).N) (k : Fin 4096) (f : Fin 256) :
    b2 m hO c t (ix3 0 k ⟨256 + f.val, by omega⟩) = aW3 m c (ix4 (grp m h (blk t)) ⟨t.val % 8, Nat.mod_lt _ (by omega)⟩ k f) :=
  (iblk2 m hO h c t k _).trans ((congrFun (V_v2 m c) _).trans (w3_apply ..))

theorem b3_apply (t : Fin (cfgM m hO).N) (f : Fin 256) (d : Fin 4096) :
    b3 m hO c t (ix3 0 f d) = aW2 m c (ix4 (grp m h (blk t)) ⟨t.val % 8, Nat.mod_lt _ (by omega)⟩ f d) :=
  (iblk3 m hO h c t f d).trans ((congrFun (V_v7 m c) _).trans (w2_apply ..))

theorem word_grp (t : Fin grid0.N) : BitVec.toNat (word m t) = (grp m h (blk t)).val := by
  unfold word
  rw [tbl_eq, show grid0.coords t 0 = (blk t : Fin 36) from Fin.ext (co0 t)]
  rfl

theorem part_eq (t : Fin (cfgM m hO).N) (r : Fin 512) (d : Fin 4096) :
    part (grid0.coords t) (b0 m hO c t) (b1 m hO c t) (b2 m hO c t) (b3 m hO c t) (word m t) r d
      = expert (aX m c) (aComb m c) (aW1 m c) (aW3 m c) (aW2 m c) (grp m h (blk t)) (row t r) d ⟨t.val % 8, Nat.mod_lt _ (by omega)⟩ := by
  have hw : BitVec.toNat (word m t) < 4 := by rw [word_grp m h]; exact (grp m h (blk t)).isLt
  have hl := fun f : Fin 128 → EReal => lanes (word m t) hw (grid0.coords t 1).val (grid0.coords t 1).isLt f
  have hcs : csOf (aComb m c) (ix2 (row t r) ⟨4 + BitVec.toNat (word m t) * 8 + (grid0.coords t 1).val, by have : (grid0.coords t 1).val < 8 := (grid0.coords t 1).isLt; omega⟩)
      = aComb m c (ix3 (row t r) (grp m h (blk t)) ⟨t.val % 8, Nat.mod_lt _ (by omega)⟩) :=
    (congrArg (fun l => csOf (aComb m c) (ix2 (row t r) l)) (Fin.ext (by show 4 + _ * 8 + _ = 4 + _ * 8 + _; rw [word_grp m h, co1]))).trans
      (cs_apply (aComb m c) (grp m h (blk t)) (t.val % 8) (Nat.mod_lt _ (by omega)) (row t r))
  unfold part expert hidden proj
  refine Finset.sum_congr rfl fun f _ => ?_
  simp only [b0_apply, b1_apply, b2_lo m hO h, b2_hi m hO h, b3_apply m hO h]
  rw [hl, hcs]

/-- An expert's part at a counted expert. -/
def nth (t : Fin grid0.N) (r : Fin 512) (d : Fin 4096) (e : ℕ) : EReal :=
  if he : e < 8 then expert (aX m c) (aComb m c) (aW1 m c) (aW3 m c) (aW2 m c) (grp m h (blk t)) (row t r) d ⟨e, he⟩ else 0

theorem part_nth (t : Fin (cfgM m hO).N) (r : Fin 512) (d : Fin 4096) :
    part (grid0.coords t) (b0 m hO c t) (b1 m hO c t) (b2 m hO c t) (b3 m hO c t) (word m t) r d = nth m h c t r d (t.val % 8) := by
  rw [part_eq m hO h, nth, dif_pos (Nat.mod_lt _ (by omega))]

/-- The points of one token block share their parts. -/
theorem nth_congr (t t' : Fin grid0.N) (ht : t.val / 8 = t'.val / 8) (r : Fin 512) (d : Fin 4096) (e : ℕ) : nth m h c t r d e = nth m h c t' r d e := by
  have e1 : blk t = blk t' := Fin.ext ht
  have e2 : row t r = row t' r := Fin.ext (by show t.val / 8 * 512 + r.val = t'.val / 8 * 512 + r.val; rw [ht])
  unfold nth
  rw [e1, e2]

/-- The scratch after the first expert's point. -/
theorem after_first (t : Fin (cfgM m hO).N) (h0 : t.val % 8 = 0) (r : Fin 512) (d : Fin 4096) :
    (outsAt0 m hO c t.val t.isLt).2 (ix2 r d) = 0 + nth m h c t r d (t.val % 8) := by
  have e := congrArg Prod.snd (outsAt0_A m hO c t h0 (by omega))
  dsimp only at e
  have e1 := (first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => (show ¬t.val % 8 = 7 by omega) ((hcond0_1 t).mp h)) (b0 m hO c t) (b1 m hO c t) (b2 m hO c t) (b3 m hO c t) (tbl m 0))
  have e2 := e.trans e1
  have e' := congrFun e2 (ix2 r d)
  have e'' := e'.trans (step (grid0.coords t) (b0 m hO c t) (b1 m hO c t) (b2 m hO c t) (b3 m hO c t) (word m t) _ r d)
  rw [zero_step, part_nth m hO h] at e''
  exact e''

/-- The scratch after a middle expert's point. -/
theorem after_middle (t : Fin (cfgM m hO).N) (h0 : ¬t.val % 8 = 0) (h7 : ¬t.val % 8 = 7) (r : Fin 512) (d : Fin 4096) :
    (outsAt0 m hO c t.val t.isLt).2 (ix2 r d)
      = (outsAt0 m hO c (t.val - 1) (Nat.lt_of_le_of_lt (Nat.sub_le _ _) t.isLt)).2 (ix2 r d) + nth m h c t r d (t.val % 8) := by
  have e := congrArg Prod.snd (outsAt0_B m hO c t h0 h7)
  dsimp only at e
  have e1 := (middle c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h7 ((hcond0_1 t).mp h)) (b0 m hO c t) (b1 m hO c t) (b2 m hO c t) (b3 m hO c t) (tbl m 0) (outsAt0 m hO c (t.val - 1) (Nat.lt_of_le_of_lt (Nat.sub_le _ _) t.isLt)).2)
  have e2 := e.trans e1
  have e' := congrFun e2 (ix2 r d)
  have e'' := e'.trans (step (grid0.coords t) (b0 m hO c t) (b1 m hO c t) (b2 m hO c t) (b3 m hO c t) (word m t) (outsAt0 m hO c (t.val - 1) (Nat.lt_of_le_of_lt (Nat.sub_le _ _) t.isLt)).2 r d)
  rw [part_nth m hO h] at e''
  exact e''

/-- The output block after the last expert's point. -/
theorem after_last (t : Fin (cfgM m hO).N) (h7 : t.val % 8 = 7) (r : Fin 512) (d : Fin 4096) :
    (outsAt0 m hO c t.val t.isLt).1 (ix2 r d)
      = (outsAt0 m hO c (t.val - 1) (Nat.lt_of_le_of_lt (Nat.sub_le _ _) t.isLt)).2 (ix2 r d) + nth m h c t r d (t.val % 8) := by
  have e := congrArg Prod.fst (outsAt0_C m hO c t (by omega) h7)
  dsimp only at e
  have e1 := (last c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => (show ¬t.val % 8 = 0 by omega) ((hcond0_0 t).mp h)) ((hcond0_1 t).mpr h7) (b0 m hO c t) (b1 m hO c t) (b2 m hO c t) (b3 m hO c t) (tbl m 0) (outsAt0 m hO c (t.val - 1) (Nat.lt_of_le_of_lt (Nat.sub_le _ _) t.isLt)).2)
  have e2 := e.trans e1
  have e' := congrFun e2 (ix2 r d)
  have e'' := (e'.trans (round_step _ r d)).trans (step (grid0.coords t) (b0 m hO c t) (b1 m hO c t) (b2 m hO c t) (b3 m hO c t) (word m t) (outsAt0 m hO c (t.val - 1) (Nat.lt_of_le_of_lt (Nat.sub_le _ _) t.isLt)).2 r d)
  rw [part_nth m hO h] at e''
  exact e''

/-- The running sum after a point. -/
theorem acc (n : ℕ) : ∀ (hn : n < (cfgM m hO).N), n % 8 ≠ 7 → ∀ (r : Fin 512) (d : Fin 4096),
    (outsAt0 m hO c n hn).2 (ix2 r d) = ∑ e ∈ Finset.range (n % 8 + 1), nth m h c ⟨n, hn⟩ r d e := by
  induction n with
  | zero =>
    intro hn h7 r d
    refine (after_first m hO h c ⟨0, hn⟩ rfl r d).trans ?_
    rw [zero_add]
    exact (Finset.sum_range_one _).symm
  | succ n ih =>
    intro hn h7 r d
    by_cases h0 : (n + 1) % 8 = 0
    · refine (after_first m hO h c ⟨n + 1, hn⟩ h0 r d).trans ?_
      rw [zero_add]
      dsimp only
      rw [h0]
      exact (Finset.sum_range_one _).symm
    · refine (after_middle m hO h c ⟨n + 1, hn⟩ h0 h7 r d).trans ?_
      rw [Finset.sum_range_succ]
      refine congrArg (· + nth m h c ⟨n + 1, hn⟩ r d ((n + 1) % 8)) ((ih (by omega) (by omega) r d).trans ?_)
      rw [show (n + 1) % 8 = n % 8 + 1 by omega]
      exact Finset.sum_congr rfl fun e _ => nth_congr m h c _ _ (by show n / 8 = (n + 1) / 8; omega) r d e

/-- A token's result: the sum over its block's group's experts. -/
def result (n : Fin 18432) (d : Fin 4096) : EReal :=
  ∑ e : Fin 8, expert (aX m c) (aComb m c) (aW1 m c) (aW3 m c) (aW2 m c) (grp m h ⟨n.val / 512, by omega⟩) n d e

/-- What the last expert of a token block writes. -/
theorem wrote (t : Fin (cfgM m hO).N) (h7 : t.val % 8 = 7) (r : Fin 512) (d : Fin 4096) :
    (outsAt0 m hO c t.val t.isLt).1 (ix2 r d) = result m h c (row t r) d := by
  rw [after_last m hO h c t h7]
  have h0 : t.val - 1 < (cfgM m hO).N := by have := t.isLt; omega
  refine (congrArg (· + nth m h c t r d (t.val % 8)) ((acc m hO h c (t.val - 1) h0 (by omega) r d).trans
    (Finset.sum_congr rfl fun e _ => nth_congr m h c _ t (by show (t.val - 1) / 8 = t.val / 8; omega) r d e))).trans ?_
  rw [show (t.val - 1) % 8 + 1 = t.val % 8 by omega, ← Finset.sum_range_succ, h7, Finset.sum_range]
  unfold result
  refine Finset.sum_congr rfl fun e _ => ?_
  unfold nth
  rw [dif_pos e.isLt]
  have e1 : blk t = (⟨(row t r).val / 512, by omega⟩ : Fin 36) := Fin.ext (by show t.val / 8 = (t.val / 8 * 512 + r.val) / 512; omega)
  rw [e1]

theorem flushed4 (t : Fin (cfgM m hO).N) :
    (dats m hO 0 c).flushed 4 t = ((cfgM m hO).win 4).cut (grid0.coords t) (outsAt0 m hO c t.val t.isLt).1 := by
  show ((cfgM m hO).win 4).cut (grid0.coords t) ((dats m hO 0 c).after 4 t) = _
  rw [after0_4]

/-- The launch's output array. -/
def out : Vec Ideal S18432x4096 .bf16 := fun i => result m h c (i 0) (i 1)

theorem out_apply (n : Fin 18432) (d : Fin 4096) : out m h c (ix2 n d) = result m h c n d := rfl

theorem flushed_eq (t : Fin (cfgM m hO).N) (hf : ((cfgM m hO).win 4).flush t = true) :
    (dats m hO 0 c).flushed 4 t = (((cfgM m hO).win 4).blk t).view.read (Elt Ideal) (out m h c) := by
  have h7 : t.val % 8 = 7 := (flush0_4 (adm m hO) t).mp hf
  rw [flushed4]
  funext (y : S512x4096.Idx)
  idx_vars y
  obtain ⟨-, -, -, -, e0, e1⟩ := maps t
  show (outsAt0 m hO c t.val t.isLt).1 (ix2 y0 y1) = out m h c ((((cfgM m hO).win 4).blk t).view.emb (ix2 y0 y1))
  have he : (((cfgM m hO).win 4).blk t).view.emb (ix2 y0 y1) = (ix2 (row t y0) y1 : S18432x4096.Idx) := by
    refine funext fun a => Fin.ext ?_
    match a with
    | ⟨0, _⟩ => show cc0_transform_4 (grid0.coords t) (0 : Fin 2) * 512 + 1 * y0.val = t.val / 8 * 512 + y0.val; omega
    | ⟨1, _⟩ => show cc0_transform_4 (grid0.coords t) (1 : Fin 2) * 4096 + 1 * y1.val = y1.val; omega
  rw [he, out_apply, wrote m hO h c t h7]

theorem covered (i : S18432x4096.Idx) :
    ∃ t : Fin (cfgM m hO).N, ((cfgM m hO).win 4).flush t = true ∧ i ∈ (((cfgM m hO).win 4).blk t).view.set := by
  idx_vars i
  refine ⟨(⟨i0.val / 512 * 8 + 7, by show _ < 288; omega⟩ : Fin grid0.N), (flush0_4 (adm m hO) _).mpr (by show (i0.val / 512 * 8 + 7) % 8 = 7; omega), ?_⟩
  refine (congrArg (ix2 i0 i1 ∈ ·) (View.set_slice_whole main_v8 (((cfgM m hO).win 4).rect _))).mpr ?_
  refine (Rect.mem_set_unit ..).mpr ?_
  obtain ⟨-, -, -, -, e0, e1⟩ := maps (⟨i0.val / 512 * 8 + 7, by show _ < 288; omega⟩ : Fin grid0.N)
  intro a
  match a with
  | ⟨0, _⟩ => show cc0_transform_4 (grid0.coords (⟨i0.val / 512 * 8 + 7, by show _ < 288; omega⟩ : Fin grid0.N)) (0 : Fin 2) * 512 ≤ i0.val ∧ i0.val < cc0_transform_4 (grid0.coords (⟨i0.val / 512 * 8 + 7, by show _ < 288; omega⟩ : Fin grid0.N)) (0 : Fin 2) * 512 + 512
              rw [e0]; dsimp only; omega
  | ⟨1, _⟩ => show cc0_transform_4 (grid0.coords (⟨i0.val / 512 * 8 + 7, by show _ < 288; omega⟩ : Fin grid0.N)) (1 : Fin 2) * 4096 ≤ i1.val ∧ i1.val < cc0_transform_4 (grid0.coords (⟨i0.val / 512 * 8 + 7, by show _ < 288; omega⟩ : Fin grid0.N)) (1 : Fin 2) * 4096 + 4096
              rw [e1]; omega

theorem final : (dats m hO 0 c).arrAt 4 (cfgM m hO).N = out m h c :=
  (dats m hO 0 c).arrAt_eq_of_cover 4 _ (fun t hf => flushed_eq m hO h c t hf) (covered m hO)

end Parts

/-- The run of the launch, its result the sum over each token's group's experts. -/
theorem run (hO : Ok m) (h : InRange m) : θ_run defs (onTc (τ := τ) (main (F := Ideal))) ⟨m, fun _ => 0, ρ⟩ fun r => ∀ c : Dev nD,
      r.2.mem ((c : Thread nD τ).loc main_v8) = out m h c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ H c => ⟨((H c).1 4).trans (final m hO h c),
    ((H c).2 main_arg0 (by decide : main_arg0 ∈ Pipeline.restRefs sig spec0)).trans (V_main_arg0 m c),
    ((H c).2 main_arg1 (by decide : main_arg1 ∈ Pipeline.restRefs sig spec0)).trans (V_main_arg1 m c),
    ((H c).2 main_arg2 (by decide : main_arg2 ∈ Pipeline.restRefs sig spec0)).trans (V_main_arg2 m c),
    ((H c).2 main_arg3 (by decide : main_arg3 ∈ Pipeline.restRefs sig spec0)).trans (V_main_arg3 m c),
    ((H c).2 main_arg4 (by decide : main_arg4 ∈ Pipeline.restRefs sig spec0)).trans (V_main_arg4 m c),
    ((H c).2 main_arg5 (by decide : main_arg5 ∈ Pipeline.restRefs sig spec0)).trans (V_main_arg5 m c)⟩) (run_main m ρ hO)

end Cert.Experts
end
-- ==== Proof.ExpertsRef.lean ====
/- The routed experts: the reference as a sum over the four groups of the sum over a group's eight experts. -/
module

public import proofs.«01_k».proof.Proof.ExpertsRun
public import proofs.«01_k».proof.Proof.Gen.ReferenceIdeal.Run
public import proofs.«01_k».proof.Proof.Gen.ReferenceIdeal.Read

@[expose] public section

set_option maxRecDepth 16384

noncomputable section

namespace Cert.ExpertsRef

open Idealize.ShloMosaic Idealize.ShloMosaic.TcCoe Idealize.SL.Sem
open Cert.ReferenceIdeal Cert.ReferenceIdeal.Read
open Cert.Experts (expert)

variable (x : FVec Ideal S18432x4096 .f32) (comb : FVec Ideal S18432x4x8 .f32) (w1 w3 : FVec Ideal S4x8x4096x256 .f32) (w2 : FVec Ideal S4x8x256x4096 .f32)

theorem group0 (n : Fin 18432) (d : Fin 4096) :
    val_main_v16 (F := Ideal) x comb w1 w3 w2 (ix2 n d) = ∑ e : Fin 8, expert x comb w1 w3 w2 0 n d e := by
  pointwise [val_main_v16, val_main_v15, val_main_v14, val_main_v13, val_main_v12, val_main_v11, val_main_v10, val_main_v9, val_main_v8, val_main_v7, val_main_v6, val_main_v5, val_main_v4, val_main_call0_v5, val_main_call0_v4, val_main_call0_v3, val_main_call0_v2, val_main_call0_v1, val_main_call0_v0, val_main_call0_cst, val_main_call0_cst_0, val_main_v3, val_main_v2, val_main_v1]
  rfl

theorem group1 (n : Fin 18432) (d : Fin 4096) :
    val_main_v33 (F := Ideal) x comb w1 w3 w2 (ix2 n d) = ∑ e : Fin 8, expert x comb w1 w3 w2 1 n d e := by
  pointwise [val_main_v33, val_main_v32, val_main_v31, val_main_v30, val_main_v29, val_main_v28, val_main_v27, val_main_v26, val_main_v25, val_main_v24, val_main_v23, val_main_v22, val_main_v21, val_main_call1_v5, val_main_call1_v4, val_main_call1_v3, val_main_call1_v2, val_main_call1_v1, val_main_call1_v0, val_main_call1_cst, val_main_call1_cst_0, val_main_v20, val_main_v19, val_main_v18]
  rfl

theorem group2 (n : Fin 18432) (d : Fin 4096) :
    val_main_v50 (F := Ideal) x comb w1 w3 w2 (ix2 n d) = ∑ e : Fin 8, expert x comb w1 w3 w2 2 n d e := by
  pointwise [val_main_v50, val_main_v49, val_main_v48, val_main_v47, val_main_v46, val_main_v45, val_main_v44, val_main_v43, val_main_v42, val_main_v41, val_main_v40, val_main_v39, val_main_v38, val_main_call2_v5, val_main_call2_v4, val_main_call2_v3, val_main_call2_v2, val_main_call2_v1, val_main_call2_v0, val_main_call2_cst, val_main_call2_cst_0, val_main_v37, val_main_v36, val_main_v35]
  rfl

theorem group3 (n : Fin 18432) (d : Fin 4096) :
    val_main_v67 (F := Ideal) x comb w1 w3 w2 (ix2 n d) = ∑ e : Fin 8, expert x comb w1 w3 w2 3 n d e := by
  pointwise [val_main_v67, val_main_v66, val_main_v65, val_main_v64, val_main_v63, val_main_v62, val_main_v61, val_main_v60, val_main_v59, val_main_v58, val_main_v57, val_main_v56, val_main_v55, val_main_call3_v5, val_main_call3_v4, val_main_call3_v3, val_main_call3_v2, val_main_call3_v1, val_main_call3_v0, val_main_call3_cst, val_main_call3_cst_0, val_main_v54, val_main_v53, val_main_v52]
  rfl

/-- The reference's value at an index: the four groups' sums, added in order. -/
theorem value (n : Fin 18432) (d : Fin 4096) :
    val_main_v69 (F := Ideal) x comb w1 w3 w2 (ix2 n d)
      = (∑ e : Fin 8, expert x comb w1 w3 w2 0 n d e) + (∑ e : Fin 8, expert x comb w1 w3 w2 1 n d e)
        + (∑ e : Fin 8, expert x comb w1 w3 w2 2 n d e) + (∑ e : Fin 8, expert x comb w1 w3 w2 3 n d e) := by
  pointwise [val_main_v69, val_main_v68, val_main_v51, val_main_v34, val_main_v17, val_main_v0, val_main_cst]
  rw [group0, group1, group2, group3]

/-- A group in which a token's weights are zero adds zero. -/
theorem group_zero (g : Fin 4) (n : Fin 18432) (d : Fin 4096) (hc : ∀ e : Fin 8, comb (ix3 n g e) = (0 : EReal)) :
    (∑ e : Fin 8, expert x comb w1 w3 w2 g n d e) = 0 := by
  refine Finset.sum_eq_zero fun e _ => Finset.sum_eq_zero fun f _ => ?_
  unfold Experts.hidden
  rw [hc e, mul_zero, zero_mul]

/-- Where a token's weights are zero outside one group, the reference is that group's sum. -/
theorem value_of_routed (g : Fin 4) (n : Fin 18432) (d : Fin 4096) (hc : ∀ g' : Fin 4, g' ≠ g → ∀ e : Fin 8, comb (ix3 n g' e) = (0 : EReal)) :
    val_main_v69 (F := Ideal) x comb w1 w3 w2 (ix2 n d) = ∑ e : Fin 8, expert x comb w1 w3 w2 g n d e := by
  have hz := fun g' hg => group_zero x comb w1 w3 w2 g' n d (hc g' hg)
  rw [value]
  match g with
  | 0 => rw [hz 1 (by decide), hz 2 (by decide), hz 3 (by decide), add_zero, add_zero, add_zero]
  | 1 => rw [hz 0 (by decide), hz 2 (by decide), hz 3 (by decide), zero_add, add_zero, add_zero]
  | 2 => rw [hz 0 (by decide), hz 1 (by decide), hz 3 (by decide), zero_add, zero_add, add_zero]
  | 3 => rw [hz 0 (by decide), hz 1 (by decide), hz 2 (by decide), zero_add, zero_add, zero_add]

end Cert.ExpertsRef

end
-- ==== Proof.Pres.lean ====
/- What the two preconditions on the table and the weights say. -/
module

public import proofs.«01_k».proof.Proof.Gen.Pre_group_range
public import proofs.«01_k».proof.Proof.Gen.Pre_routed
public import proofs.«01_k».proof.Proof.ExpertsVal
public import Idealize.ShloMosaic.Lib.Pointwise
public import Idealize.ShloMosaic.Lib.StableHlo.Predicate

@[expose] public section

namespace Cert.Pres

open Idealize.ShloMosaic
open Cert.OkKernelIdeal (place)

theorem both {a b : BitVec 1} (h : IntOp.andi a b = 1#1) : a = 1#1 ∧ b = 1#1 := by
  revert a b; decide

theorem either {a b : BitVec 1} (h : IntOp.ori a b = 1#1) : a = 1#1 ∨ b = 1#1 := by
  revert a b; decide

/-- A word from 0 up to 4, compared signed, is below 4. -/
theorem word_lt {w : BitVec 32} (h : IntOp.andi (IntOp.cmpi .sge w 0#32) (IntOp.cmpi .slt w 4#32) = 1#1) : w.toNat < 4 := by
  obtain ⟨h0, h4⟩ := both h
  have h0' : (0 : Int) ≤ w.toInt := by
    have := (StableHlo.Predicate.ofBool_eq_one_iff _).mp h0
    simpa [BitVec.sle] using this
  have h4' : w.toInt < 4 := by
    have := (StableHlo.Predicate.ofBool_eq_one_iff _).mp h4
    simpa [BitVec.slt] using this
  rw [BitVec.toInt_eq_toNat_cond] at h0' h4'
  have := w.isLt
  split at h0' <;> omega

/-- Words of a table in range are below 4. -/
theorem range_lt {F : FTy → Type} [FloatOps F] {tg : IVec Pre_group_range.S36 32} {x : FVec F Pre_group_range.S18432x4096 .f32}
    {comb : FVec F Pre_group_range.S18432x4x8 .f32} {w1 w3 : FVec F Pre_group_range.S4x8x4096x256 .f32} {w2 : FVec F Pre_group_range.S4x8x256x4096 .f32}
    (h : Pre_group_range.fn (F := F) tg x comb w1 w3 w2 = fun _ => 1#1) (i : Pre_group_range.S36.Idx) : (tg i).toNat < 4 :=
  word_lt (congrFun h i)

section
variable {tg : IVec Pre_routed.S36 32} {x : FVec Ideal Pre_routed.S18432x4096 .f32}
    {comb : FVec Ideal Pre_routed.S18432x4x8 .f32} {w1 w3 : FVec Ideal Pre_routed.S4x8x4096x256 .f32} {w2 : FVec Ideal Pre_routed.S4x8x256x4096 .f32}

theorem routed_apply (a : Fin 36) (b : Fin 512) (g : Fin 4) (e : Fin 8) :
    Pre_routed.fn (F := Ideal) tg x comb w1 w3 w2 (ix4 a b g e)
      = IntOp.andi (IntOp.andi (IntOp.cmpi .sge (tg (place a)) 0#32) (IntOp.cmpi .slt (tg (place a)) 4#32))
          (IntOp.ori (IntOp.cmpi .eq (BitVec.ofNat 32 g.val) (tg (place a)))
            (BitVec.ofBool (decide (comb (ix3 ⟨a.val * 512 + b.val, by omega⟩ g e) = (0 : EReal))))) := by
  rw [show place a = ix1 a from funext fun i => match i with | ⟨0, _⟩ => rfl]
  pointwise [Pre_routed.fn]

/-- Under `routed` every word of the table is below 4. -/
theorem routed_lt (h : Pre_routed.fn (F := Ideal) tg x comb w1 w3 w2 = fun _ => 1#1) (a : Fin 36) : (tg (place a)).toNat < 4 :=
  word_lt (both ((routed_apply a 0 0 0).symm.trans (congrFun h _))).1

/-- Under `routed` a token's weights are zero outside its block's group. -/
theorem routed_zero (h : Pre_routed.fn (F := Ideal) tg x comb w1 w3 w2 = fun _ => 1#1) (n : Fin 18432) (g : Fin 4)
    (hg : g.val ≠ (tg (place ⟨n.val / 512, by omega⟩)).toNat) (e : Fin 8) : comb (ix3 n g e) = (0 : EReal) := by
  have hn : (⟨n.val / 512 * 512 + n.val % 512, by omega⟩ : Fin 18432) = n := Fin.ext (by show n.val / 512 * 512 + n.val % 512 = n.val; omega)
  have k := (routed_apply (x := x) (w1 := w1) (w3 := w3) (w2 := w2) (tg := tg) (comb := comb) ⟨n.val / 512, by omega⟩ ⟨n.val % 512, by omega⟩ g e).symm.trans (congrFun h _)
  rcases either (both k).2 with k | k
  · refine absurd ?_ hg
    rw [← StableHlo.Predicate.cmpi_eq_iff.mp k, BitVec.toNat_ofNat]
    omega
  · rw [StableHlo.Predicate.ofBool_eq_one_iff, decide_eq_true_eq] at k
    rw [← hn]
    exact k

end

end Cert.Pres
-- ==== Proof.InProj.lean ====
/- The input projection of the recurrent layer: the array the kernel leaves is, entry by entry, the sum of products
   that the reference's product and padding give. -/
module

public import proofs.«01_k».proof.Proof.Gen.InKernelIdeal.Value
public import proofs.«01_k».proof.Proof.Gen.InReferenceIdeal.Run
public import Idealize.ShloMosaic.Lib.Pointwise
public import Idealize.ShloMosaic.Lib.Pipeline.Value

@[expose] public section

set_option maxRecDepth 16384

noncomputable section

namespace Cert.InProj

open Cert.InKernelIdeal Cert.InKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of two whole matrices, entry by entry. -/
def prod (A : S16640x4096.Idx → EReal) (B : S4096x10240.Idx → EReal) : S16640x10240.Idx → EReal :=
  fun i => ∑ k : Fin 4096, A (ix2 (i 0) k) * B (ix2 k (i 1))

theorem idx_facts : ∀ t : Fin cfg0.N, win0_0.index t (0 : Fin 2) = t.val / 10 ∧ win0_0.index t (1 : Fin 2) = 0
    ∧ win0_1.index t (0 : Fin 2) = 0 ∧ win0_1.index t (1 : Fin 2) = t.val % 10
    ∧ win0_2.index t (0 : Fin 2) = t.val / 10 ∧ win0_2.index t (1 : Fin 2) = t.val % 10 :=
  (by decide +kernel : ∀ t : Fin grid0.N, _)

theorem lt_N (t : Fin cfg0.N) : t.val < 130 := t.isLt

theorem hz : (![0, 0] : Fin 2 → Nat) = fun _ => 0 := funext fun a => by fin_cases a <;> rfl

/-- Row block `t / 10` of the left matrix. -/
theorem iblk0 (c : Dev nD) (t : Fin cfg0.N) (r : Fin 1280) (k : Fin 4096) :
    iblk m c 0 t (ix2 r k) = V m c main_v2 (ix2 ⟨t.val / 10 * 1280 + r.val, by have := lt_N t; omega⟩ k) := by
  obtain ⟨e0, e1, -⟩ := idx_facts t
  show V m c main_v2 (((cfg0.win 0).blk t).view.emb (ix2 r k)) = _
  refine congrArg (V m c main_v2) (funext fun a => Fin.ext ?_)
  match a with
  | ⟨0, _⟩ => show win0_0.index t (0 : Fin 2) * 1280 + 1 * r.val = t.val / 10 * 1280 + r.val; omega
  | ⟨1, _⟩ => show win0_0.index t (1 : Fin 2) * 4096 + 1 * k.val = k.val; omega

/-- Column block `t % 10` of the right matrix. -/
theorem iblk1 (c : Dev nD) (t : Fin cfg0.N) (k : Fin 4096) (l : Fin 1024) :
    iblk m c 1 t (ix2 k l) = V m c main_v3 (ix2 k ⟨t.val % 10 * 1024 + l.val, by omega⟩) := by
  obtain ⟨-, -, e0, e1, -⟩ := idx_facts t
  show V m c main_v3 (((cfg0.win 1).blk t).view.emb (ix2 k l)) = _
  refine congrArg (V m c main_v3) (funext fun a => Fin.ext ?_)
  match a with
  | ⟨0, _⟩ => show win0_1.index t (0 : Fin 2) * 4096 + 1 * k.val = k.val; omega
  | ⟨1, _⟩ => show win0_1.index t (1 : Fin 2) * 1024 + 1 * l.val = t.val % 10 * 1024 + l.val; omega

/-- The body's block is the product of its two blocks. -/
theorem out_apply (x0 : Vec Ideal S1280x4096 .bf16) (x1 : Vec Ideal S4096x1024 .bf16) (r : Fin 1280) (l : Fin 1024) :
    out0_2 x0 x1 (ix2 r l) = ∑ k : Fin 4096, x0 (ix2 r k) * x1 (ix2 k l) := by
  unfold out0_2
  rw [View.canon_unit_zero hz, View.ld_unit_zero hz, View.ld_unit_zero hz]
  pointwise [k0_pay1]

theorem flushed_eq (c : Dev nD) (t : Fin cfg0.N) :
    (dats m 0 c).flushed 2 t = ((cfg0.win 2).blk t).view.read (Elt Ideal) (prod (V m c main_v2) (V m c main_v3)) := by
  rw [Value.flushed2]
  funext y
  idx_vars y
  obtain ⟨-, -, -, -, e0, e1⟩ := idx_facts t
  show out0_2 (iblk m c 0 t) (iblk m c 1 t) (ix2 y0 y1) = prod (V m c main_v2) (V m c main_v3) (((cfg0.win 2).blk t).view.emb (ix2 y0 y1))
  have he : ((cfg0.win 2).blk t).view.emb (ix2 y0 y1) = (ix2 ⟨t.val / 10 * 1280 + y0.val, by have := lt_N t; omega⟩ ⟨t.val % 10 * 1024 + y1.val, by omega⟩ : S16640x10240.Idx) := by
    refine funext fun a => Fin.ext ?_
    match a with
    | ⟨0, _⟩ => show win0_2.index t (0 : Fin 2) * 1280 + 1 * y0.val = t.val / 10 * 1280 + y0.val; omega
    | ⟨1, _⟩ => show win0_2.index t (1 : Fin 2) * 1024 + 1 * y1.val = t.val % 10 * 1024 + y1.val; omega
  rw [he, out_apply]
  exact Finset.sum_congr rfl fun k _ => by rw [iblk0, iblk1]; rfl

theorem covered (i : S16640x10240.Idx) :
    ∃ t : Fin cfg0.N, (cfg0.win 2).flush t = true ∧ i ∈ ((cfg0.win 2).blk t).view.set := by
  idx_vars i
  refine ⟨(⟨i0.val / 1280 * 10 + i1.val / 1024, by show _ < 130; omega⟩ : Fin cfg0.N), flush0_2 _, ?_⟩
  show _ ∈ ((View.whole main_v4).slice (win0_2.rect _)).set
  rw [View.set_slice_whole, Rect.mem_set_unit]
  obtain ⟨-, -, -, -, e0, e1⟩ := idx_facts (⟨i0.val / 1280 * 10 + i1.val / 1024, by show _ < 130; omega⟩ : Fin cfg0.N)
  intro a
  match a with
  | ⟨0, _⟩ => show win0_2.index _ (0 : Fin 2) * 1280 ≤ i0.val ∧ i0.val < win0_2.index _ (0 : Fin 2) * 1280 + 1280
              rw [e0]; dsimp only; omega
  | ⟨1, _⟩ => show win0_2.index _ (1 : Fin 2) * 1024 ≤ i1.val ∧ i1.val < win0_2.index _ (1 : Fin 2) * 1024 + 1024
              rw [e1]; dsimp only; omega

theorem final (c : Dev nD) : (dats m 0 c).arrAt 2 cfg0.N = prod (V m c main_v2) (V m c main_v3) :=
  (dats m 0 c).arrAt_eq_of_cover 2 _ (fun t _ => flushed_eq m c t) covered

/-- The activations laid out in padded rows: 112 zero rows before each batch element's 8208. -/
def rows (x : FVec Ideal S2x8208x4096 .f32) : FVec Ideal S16640x4096 .bf16 :=
  truncf .bf16 (shapeCast S16640x4096 (pad S2x8320x4096 ![0, 112, 0] ![0, 0, 0] ![0, 0, 0] x (sitofp .f32 (constantI S_ 32 0#32)) pads_S2x8208x4096_S2x8320x4096_000_11200_000 h_S_) shapeCasts_S2x8320x4096_S16640x4096) bitsLt_bf16_f32

theorem V_v2 (c : Dev nD) : V m c main_v2 = rows (m ((c : Thread nD τ).loc main_arg0)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- The weights as the kernel reads them. -/
def weights (w : FVec Ideal S4096x10240 .f32) : FVec Ideal S4096x10240 .bf16 := truncf .bf16 w bitsLt_bf16_f32

theorem V_v3 (c : Dev nD) : V m c main_v3 = weights (m ((c : Thread nD τ).loc main_arg1)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- The reference's padded product. -/
def ref (x : FVec Ideal S2x8208x4096 .f32) (w : FVec Ideal S4096x10240 .f32) : FVec Ideal S16640x10240 .bf16 :=
  truncf .bf16 (shapeCast Cert.InReferenceIdeal.S16640x10240 (pad Cert.InReferenceIdeal.S2x8320x10240 ![0, 112, 0] ![0, 0, 0] ![0, 0, 0] (Host.dotGeneral (F := Ideal) (φ₁ := .f32) (φ₂ := .f32) Cert.InReferenceIdeal.dot_S2x8208x4096_S4096x10240_S2x8208x10240_2_0_01_1_n_n none x w) (sitofp .f32 (constantI Cert.InReferenceIdeal.S_ 32 0#32)) Cert.InReferenceIdeal.Gen.pads_S2x8208x10240_S2x8320x10240_000_11200_000 Cert.InReferenceIdeal.Gen.h_S_) Cert.InReferenceIdeal.Gen.shapeCasts_S2x8320x10240_S16640x10240) Cert.InReferenceIdeal.Gen.bitsLt_bf16_f32

/-- The word 0 read as a number is 0. -/
theorem zero_word : FloatOps.sitofp (F := Ideal) .f32 (0#32) = (0 : EReal) := by
  simp [FloatOps.sitofp]

/-- The padded rows times the matrix are the padded product: a padding row's products are zero. -/
theorem prod_eq_ref (c : Dev nD) : prod (V m c main_v2) (V m c main_v3)
    = ref (m ((c : Thread nD τ).loc main_arg0)) (m ((c : Thread nD τ).loc main_arg1)) := by
  rw [V_v2, V_v3]
  generalize m ((c : Thread nD τ).loc main_arg0) = x
  generalize m ((c : Thread nD τ).loc main_arg1) = w
  funext i
  idx_vars i
  pointwise [prod, ref, rows, weights]
  by_cases h : i0.val / 8320 < 2 ∧ 112 ≤ i0.val % 8320 ∧ i0.val % 8320 - 112 < 8208
  · simp only [dif_pos h]
  · simp only [dif_neg h, zero_word, zero_mul, Finset.sum_const_zero]

/-- The run of the kernel, its result the reference's padded product. -/
theorem run : θ_run defs (onTc (τ := τ) (main (F := Ideal))) ⟨m, fun _ => 0, ρ⟩ fun r => ∀ c : Dev nD,
      r.2.mem ((c : Thread nD τ).loc main_v4) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((final m c).trans (prod_eq_ref m c)), (h c).2⟩) (Value.run_blocks m ρ)

end Cert.InProj

end
-- ==== Proof.OutProj.lean ====
/- The output projection of the recurrent layer with the residual added: the array the kernel leaves is, entry by entry,
   the sum of products plus the residual that the reference's product, sum and padding give. -/
module

public import proofs.«01_k».proof.Proof.Gen.OutKernelIdeal.Value
public import proofs.«01_k».proof.Proof.Gen.OutReferenceIdeal.Run
public import Idealize.ShloMosaic.Lib.Pointwise
public import Idealize.ShloMosaic.Lib.Pipeline.Value

@[expose] public section

set_option maxRecDepth 16384

noncomputable section

namespace Cert.OutProj

open Cert.OutKernelIdeal Cert.OutKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of two whole matrices with a third added, entry by entry. -/
def prod (A : S16640x5120.Idx → EReal) (B : S5120x4096.Idx → EReal) (H : S16640x4096.Idx → EReal) : S16640x4096.Idx → EReal :=
  fun i => (∑ k : Fin 5120, A (ix2 (i 0) k) * B (ix2 k (i 1))) + H i

theorem idx_facts : ∀ t : Fin cfg0.N, win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8 :=
  (by decide +kernel : ∀ t : Fin grid0.N, _)

theorem lt_N (t : Fin cfg0.N) : t.val < 104 := t.isLt

theorem hz : (![0, 0] : Fin 2 → Nat) = fun _ => 0 := funext fun a => by fin_cases a <;> rfl

/-- Row block `t / 8` of the left matrix. -/
theorem iblk0 (c : Dev nD) (t : Fin cfg0.N) (r : Fin 1280) (k : Fin 5120) :
    iblk m c 0 t (ix2 r k) = V m c main_v2 (ix2 ⟨t.val / 8 * 1280 + r.val, by have := lt_N t; omega⟩ k) := by
  obtain ⟨e0, e1, -⟩ := idx_facts t
  show V m c main_v2 (((cfg0.win 0).blk t).view.emb (ix2 r k)) = _
  refine congrArg (V m c main_v2) (funext fun a => Fin.ext ?_)
  match a with
  | ⟨0, _⟩ => show win0_0.index t (0 : Fin 2) * 1280 + 1 * r.val = t.val / 8 * 1280 + r.val; omega
  | ⟨1, _⟩ => show win0_0.index t (1 : Fin 2) * 5120 + 1 * k.val = k.val; omega

/-- Column block `t % 8` of the right matrix. -/
theorem iblk1 (c : Dev nD) (t : Fin cfg0.N) (k : Fin 5120) (l : Fin 512) :
    iblk m c 1 t (ix2 k l) = V m c main_v3 (ix2 k ⟨t.val % 8 * 512 + l.val, by omega⟩) := by
  obtain ⟨-, -, e0, e1, -⟩ := idx_facts t
  show V m c main_v3 (((cfg0.win 1).blk t).view.emb (ix2 k l)) = _
  refine congrArg (V m c main_v3) (funext fun a => Fin.ext ?_)
  match a with
  | ⟨0, _⟩ => show win0_1.index t (0 : Fin 2) * 5120 + 1 * k.val = k.val; omega
  | ⟨1, _⟩ => show win0_1.index t (1 : Fin 2) * 512 + 1 * l.val = t.val % 8 * 512 + l.val; omega

/-- The residual's block. -/
theorem iblk2 (c : Dev nD) (t : Fin cfg0.N) (r : Fin 1280) (l : Fin 512) :
    iblk m c 2 t (ix2 r l) = V m c main_v5 (ix2 ⟨t.val / 8 * 1280 + r.val, by have := lt_N t; omega⟩ ⟨t.val % 8 * 512 + l.val, by omega⟩) := by
  obtain ⟨-, -, -, -, e0, e1, -⟩ := idx_facts t
  show V m c main_v5 (((cfg0.win 2).blk t).view.emb (ix2 r l)) = _
  refine congrArg (V m c main_v5) (funext fun a => Fin.ext ?_)
  match a with
  | ⟨0, _⟩ => show win0_2.index t (0 : Fin 2) * 1280 + 1 * r.val = t.val / 8 * 1280 + r.val; omega
  | ⟨1, _⟩ => show win0_2.index t (1 : Fin 2) * 512 + 1 * l.val = t.val % 8 * 512 + l.val; omega

/-- The body's block is the product of its two blocks plus the residual's. -/
theorem out_apply (x0 : Vec Ideal S1280x5120 .bf16) (x1 : Vec Ideal S5120x512 .bf16) (x2 : Vec Ideal S1280x512 .f32) (r : Fin 1280) (l : Fin 512) :
    out0_3 x0 x1 x2 (ix2 r l) = (∑ k : Fin 5120, x0 (ix2 r k) * x1 (ix2 k l)) + x2 (ix2 r l) := by
  unfold out0_3
  rw [View.canon_unit_zero hz, View.ld_unit_zero hz, View.ld_unit_zero hz, View.ld_unit_zero hz]
  pointwise [k0_pay1]

theorem flushed_eq (c : Dev nD) (t : Fin cfg0.N) :
    (dats m 0 c).flushed 3 t = ((cfg0.win 3).blk t).view.read (Elt Ideal) (prod (V m c main_v2) (V m c main_v3) (V m c main_v5)) := by
  rw [Value.flushed3]
  funext y
  idx_vars y
  obtain ⟨-, -, -, -, -, -, e0, e1⟩ := idx_facts t
  show out0_3 (iblk m c 0 t) (iblk m c 1 t) (iblk m c 2 t) (ix2 y0 y1) = prod (V m c main_v2) (V m c main_v3) (V m c main_v5) (((cfg0.win 3).blk t).view.emb (ix2 y0 y1))
  have he : ((cfg0.win 3).blk t).view.emb (ix2 y0 y1) = (ix2 ⟨t.val / 8 * 1280 + y0.val, by have := lt_N t; omega⟩ ⟨t.val % 8 * 512 + y1.val, by omega⟩ : S16640x4096.Idx) := by
    refine funext fun a => Fin.ext ?_
    match a with
    | ⟨0, _⟩ => show win0_3.index t (0 : Fin 2) * 1280 + 1 * y0.val = t.val / 8 * 1280 + y0.val; omega
    | ⟨1, _⟩ => show win0_3.index t (1 : Fin 2) * 512 + 1 * y1.val = t.val % 8 * 512 + y1.val; omega
  rw [he, out_apply, iblk2]
  refine congrArg (· + V m c main_v5 (ix2 _ _)) ?_
  exact Finset.sum_congr rfl fun k _ => by rw [iblk0, iblk1]; rfl

theorem covered (i : S16640x4096.Idx) :
    ∃ t : Fin cfg0.N, (cfg0.win 3).flush t = true ∧ i ∈ ((cfg0.win 3).blk t).view.set := by
  idx_vars i
  refine ⟨(⟨i0.val / 1280 * 8 + i1.val / 512, by show _ < 104; omega⟩ : Fin cfg0.N), flush0_3 _, ?_⟩
  show _ ∈ ((View.whole main_v6).slice (win0_3.rect _)).set
  rw [View.set_slice_whole, Rect.mem_set_unit]
  obtain ⟨-, -, -, -, -, -, e0, e1⟩ := idx_facts (⟨i0.val / 1280 * 8 + i1.val / 512, by show _ < 104; omega⟩ : Fin cfg0.N)
  intro a
  match a with
  | ⟨0, _⟩ => show win0_3.index _ (0 : Fin 2) * 1280 ≤ i0.val ∧ i0.val < win0_3.index _ (0 : Fin 2) * 1280 + 1280
              rw [e0]; dsimp only; omega
  | ⟨1, _⟩ => show win0_3.index _ (1 : Fin 2) * 512 ≤ i1.val ∧ i1.val < win0_3.index _ (1 : Fin 2) * 512 + 512
              rw [e1]; dsimp only; omega

theorem final (c : Dev nD) : (dats m 0 c).arrAt 3 cfg0.N = prod (V m c main_v2) (V m c main_v3) (V m c main_v5) :=
  (dats m 0 c).arrAt_eq_of_cover 3 _ (fun t _ => flushed_eq m c t) covered

/-- The activations laid out in padded rows: 112 zero rows before each batch element's 8208. -/
def rows (x : FVec Ideal S2x8208x5120 .f32) : FVec Ideal S16640x5120 .bf16 :=
  truncf .bf16 (shapeCast S16640x5120 (pad S2x8320x5120 ![0, 112, 0] ![0, 0, 0] ![0, 0, 0] x (sitofp .f32 (constantI S_ 32 0#32)) pads_S2x8208x5120_S2x8320x5120_000_11200_000 h_S_) shapeCasts_S2x8320x5120_S16640x5120) bitsLt_bf16_f32

/-- The residual laid out the same way. -/
def resRows (x : FVec Ideal S2x8208x4096 .f32) : FVec Ideal S16640x4096 .f32 :=
  shapeCast S16640x4096 (pad S2x8320x4096 ![0, 112, 0] ![0, 0, 0] ![0, 0, 0] x (sitofp .f32 (constantI S_ 32 0#32)) pads_S2x8208x4096_S2x8320x4096_000_11200_000 h_S_) shapeCasts_S2x8320x4096_S16640x4096

theorem V_v2 (c : Dev nD) : V m c main_v2 = rows (m ((c : Thread nD τ).loc main_arg0)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

theorem V_v5 (c : Dev nD) : V m c main_v5 = resRows (m ((c : Thread nD τ).loc main_arg2)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

/-- The weights as the kernel reads them. -/
def weights (w : FVec Ideal S5120x4096 .f32) : FVec Ideal S5120x4096 .bf16 := truncf .bf16 w bitsLt_bf16_f32

theorem V_v3 (c : Dev nD) : V m c main_v3 = weights (m ((c : Thread nD τ).loc main_arg1)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

/-- The reference's padded product and sum. -/
def ref (x : FVec Ideal S2x8208x5120 .f32) (w : FVec Ideal S5120x4096 .f32) (h : FVec Ideal S2x8208x4096 .f32) : FVec Ideal S16640x4096 .f32 :=
  shapeCast Cert.OutReferenceIdeal.S16640x4096 (pad Cert.OutReferenceIdeal.S2x8320x4096 ![0, 112, 0] ![0, 0, 0] ![0, 0, 0] (addf h (Host.dotGeneral (F := Ideal) (φ₁ := .f32) (φ₂ := .f32) Cert.OutReferenceIdeal.dot_S2x8208x5120_S5120x4096_S2x8208x4096_2_0_01_1_n_n none x w)) (sitofp .f32 (constantI Cert.OutReferenceIdeal.S_ 32 0#32)) Cert.OutReferenceIdeal.Gen.pads_S2x8208x4096_S2x8320x4096_000_11200_000 Cert.OutReferenceIdeal.Gen.h_S_) Cert.OutReferenceIdeal.Gen.shapeCasts_S2x8320x4096_S16640x4096

/-- The word 0 read as a number is 0. -/
theorem zero_word : FloatOps.sitofp (F := Ideal) .f32 (0#32) = (0 : EReal) := by
  simp [FloatOps.sitofp]

/-- The padded rows times the matrix plus the padded residual are the padded sum: a padding row's terms are zero. -/
theorem prod_eq_ref (c : Dev nD) : prod (V m c main_v2) (V m c main_v3) (V m c main_v5)
    = ref (m ((c : Thread nD τ).loc main_arg0)) (m ((c : Thread nD τ).loc main_arg1)) (m ((c : Thread nD τ).loc main_arg2)) := by
  rw [V_v2, V_v3, V_v5]
  generalize m ((c : Thread nD τ).loc main_arg0) = x
  generalize m ((c : Thread nD τ).loc main_arg1) = w
  generalize m ((c : Thread nD τ).loc main_arg2) = r
  funext i
  idx_vars i
  pointwise [prod, ref, rows, resRows, weights]
  by_cases h : i0.val / 8320 < 2 ∧ 112 ≤ i0.val % 8320 ∧ i0.val % 8320 - 112 < 8208
  · simp only [dif_pos h]
    exact add_comm _ _
  · simp only [dif_neg h, zero_word, zero_mul, Finset.sum_const_zero, add_zero]

/-- The run of the kernel, its result the reference's padded sum. -/
theorem run : θ_run defs (onTc (τ := τ) (main (F := Ideal))) ⟨m, fun _ => 0, ρ⟩ fun r => ∀ c : Dev nD,
      r.2.mem ((c : Thread nD τ).loc main_v6) = ref (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((final m c).trans (prod_eq_ref m c)), (h c).2⟩) (Value.run_blocks m ρ)

end Cert.OutProj

end
-- ==== Proof.FinalNorm.lean ====
/- The last norm: the array the kernel leaves is, entry by entry, the root-mean-square norm of the sum of the residual
   stream and the last feed-forward part's output, at the rows after the meta tokens. -/
module

public import proofs.«01_k».proof.Proof.Gen.FinalKernelIdeal.Value
public import proofs.«01_k».proof.Proof.Gen.FinalReferenceIdeal.Run
public import proofs.«01_k».proof.Proof.Gen.FinalReferenceIdeal.Read
public import Idealize.ShloMosaic.Lib.Pointwise
public import Idealize.ShloMosaic.Lib.Pipeline.Value

@[expose] public section

set_option maxRecDepth 16384

noncomputable section

namespace Cert.FinalNorm

open Cert.FinalKernelIdeal Cert.FinalKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One entry of a normed row: `z k` the row's entries, `g` the gain at the entry `k`. -/
def entry (z : Fin 4096 → EReal) (g : EReal) (k : Fin 4096) : EReal :=
  z k * Ideal.rsqrt (Ideal.div (∑ l : Fin 4096, z l * z l) (Ideal.ofBits .f32 0x45800000#32) + Ideal.ofBits .f32 0x358637BD#32) * g

theorem hz : (![0, 0] : Fin 2 → Nat) = fun _ => 0 := funext fun a => by fin_cases a <;> rfl

theorem lt_N (t : Fin cfg0.N) : t.val < 32 := t.isLt

theorem idx_facts : ∀ t : Fin cfg0.N, win0_0.index t (0 : Fin 2) = t.val / 16 * 8320 + 128 + t.val % 16 * 512 ∧ win0_0.index t (1 : Fin 2) = 0
    ∧ win0_1.index t (0 : Fin 2) = t.val / 16 * 8320 + 128 + t.val % 16 * 512 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row of the padded frames that result row `r` is the norm of: past 112 rows of padding and 16 meta tokens. -/
def src (r : Fin 16384) : Fin 16640 := ⟨r.val / 8192 * 8320 + 128 + r.val % 8192, by omega⟩

/-- The whole result over the prepared arrays. -/
def whole (A B : S16640x4096.Idx → EReal) (G : S1x4096.Idx → EReal) : S16384x4096.Idx → EReal :=
  fun i => entry (fun l => A (ix2 (src (i 0)) l) + B (ix2 (src (i 0)) l)) (G (ix2 0 (i 1))) (i 1)

theorem row_lt (t : Fin cfg0.N) (r : Fin 512) : t.val * 512 + r.val < 16384 := by have := lt_N t; omega

theorem iblk0 (c : Dev nD) (t : Fin cfg0.N) (r : Fin 512) (k : Fin 4096) :
    iblk m c 0 t (ix2 r k) = V m c main_v1 (ix2 (src ⟨t.val * 512 + r.val, row_lt t r⟩) k) := by
  obtain ⟨e0, e1, -⟩ := idx_facts t
  show V m c main_v1 (((cfg0.win 0).blk t).view.emb (ix2 r k)) = _
  refine congrArg (V m c main_v1) (funext fun a => Fin.ext ?_)
  have := lt_N t
  match a with
  | ⟨0, _⟩ => show win0_0.index t (0 : Fin 2) + 1 * r.val = (t.val * 512 + r.val) / 8192 * 8320 + 128 + (t.val * 512 + r.val) % 8192; omega
  | ⟨1, _⟩ => show win0_0.index t (1 : Fin 2) + 1 * k.val = k.val; omega

theorem iblk1 (c : Dev nD) (t : Fin cfg0.N) (r : Fin 512) (k : Fin 4096) :
    iblk m c 1 t (ix2 r k) = V m c main_v4 (ix2 (src ⟨t.val * 512 + r.val, row_lt t r⟩) k) := by
  obtain ⟨-, -, e0, e1, -⟩ := idx_facts t
  show V m c main_v4 (((cfg0.win 1).blk t).view.emb (ix2 r k)) = _
  refine congrArg (V m c main_v4) (funext fun a => Fin.ext ?_)
  have := lt_N t
  match a with
  | ⟨0, _⟩ => show win0_1.index t (0 : Fin 2) + 1 * r.val = (t.val * 512 + r.val) / 8192 * 8320 + 128 + (t.val * 512 + r.val) % 8192; omega
  | ⟨1, _⟩ => show win0_1.index t (1 : Fin 2) + 1 * k.val = k.val; omega

theorem iblk2 (c : Dev nD) (t : Fin cfg0.N) (k : Fin 4096) :
    iblk m c 2 t (ix2 0 k) = V m c main_v5 (ix2 0 k) := by
  obtain ⟨-, -, -, -, e0, e1, -⟩ := idx_facts t
  show V m c main_v5 (((cfg0.win 2).blk t).view.emb (ix2 0 k)) = _
  refine congrArg (V m c main_v5) (funext fun a => Fin.ext ?_)
  match a with
  | ⟨0, _⟩ => show win0_2.index t (0 : Fin 2) * 1 + 1 * 0 = 0; omega
  | ⟨1, _⟩ => show win0_2.index t (1 : Fin 2) * 4096 + 1 * k.val = k.val; omega

/-- The body's block is the normed sum of its two blocks. -/
theorem out_apply (x0 : Vec Ideal S512x4096 .f32) (x1 : Vec Ideal S512x4096 .bf16) (x2 : Vec Ideal S1x4096 .f32) (r : Fin 512) (k : Fin 4096) :
    out0_3 x0 x1 x2 (ix2 r k) = entry (fun l => x0 (ix2 r l) + x1 (ix2 r l)) (x2 (ix2 0 k)) k := by
  unfold out0_3
  rw [View.canon_unit_zero hz, View.ld_unit_zero hz, View.ld_unit_zero hz, View.ld_unit_zero hz]
  pointwise [k0_pay1, entry]

/-- The reference's array. -/
def ref (h : FVec Ideal S2x8208x4096 .f32) (d : FVec Ideal S2x8208x4096 .f32) (g : FVec Ideal S4096 .f32) : FVec Ideal S16384x4096 .f32 :=
  Cert.FinalReferenceIdeal.Read.val_main_v15 (F := Ideal) h d g

/-- The reference's array, entry by entry. -/
theorem ref_apply (h : FVec Ideal S2x8208x4096 .f32) (d : FVec Ideal S2x8208x4096 .f32) (g : FVec Ideal S4096 .f32) (r : Fin 16384) (k : Fin 4096) :
    ref h d g (ix2 r k) = entry (fun l => h (ix3 ⟨r.val / 8192, by omega⟩ ⟨16 + r.val % 8192, by omega⟩ l) + d (ix3 ⟨r.val / 8192, by omega⟩ ⟨16 + r.val % 8192, by omega⟩ l)) (g (ix1 k)) k := by
  pointwise [ref, entry, Cert.FinalReferenceIdeal.Read.val_main_v15, Cert.FinalReferenceIdeal.Read.val_main_v14, Cert.FinalReferenceIdeal.Read.val_main_v13, Cert.FinalReferenceIdeal.Read.val_main_v12, Cert.FinalReferenceIdeal.Read.val_main_v11, Cert.FinalReferenceIdeal.Read.val_main_v10, Cert.FinalReferenceIdeal.Read.val_main_v9, Cert.FinalReferenceIdeal.Read.val_main_v8, Cert.FinalReferenceIdeal.Read.val_main_v7, Cert.FinalReferenceIdeal.Read.val_main_v6, Cert.FinalReferenceIdeal.Read.val_main_v5, Cert.FinalReferenceIdeal.Read.val_main_v4, Cert.FinalReferenceIdeal.Read.val_main_v3, Cert.FinalReferenceIdeal.Read.val_main_v2, Cert.FinalReferenceIdeal.Read.val_main_v1, Cert.FinalReferenceIdeal.Read.val_main_v0, Cert.FinalReferenceIdeal.Read.val_main_cst, Cert.FinalReferenceIdeal.Read.val_main_cst_0, Cert.FinalReferenceIdeal.Read.val_main_cst_1]

theorem flushed_eq (c : Dev nD) (t : Fin cfg0.N) :
    (dats m 0 c).flushed 3 t = ((cfg0.win 3).blk t).view.read (Elt Ideal) (whole (V m c main_v1) (V m c main_v4) (V m c main_v5)) := by
  rw [Value.flushed3]
  funext y
  idx_vars y
  obtain ⟨-, -, -, -, -, -, e0, e1⟩ := idx_facts t
  show out0_3 (iblk m c 0 t) (iblk m c 1 t) (iblk m c 2 t) (ix2 y0 y1) = whole (V m c main_v1) (V m c main_v4) (V m c main_v5) (((cfg0.win 3).blk t).view.emb (ix2 y0 y1))
  have he : ((cfg0.win 3).blk t).view.emb (ix2 y0 y1) = (ix2 ⟨t.val * 512 + y0.val, row_lt t y0⟩ y1 : S16384x4096.Idx) := by
    refine funext fun a => Fin.ext ?_
    match a with
    | ⟨0, _⟩ => show win0_3.index t (0 : Fin 2) * 512 + 1 * y0.val = t.val * 512 + y0.val; omega
    | ⟨1, _⟩ => show win0_3.index t (1 : Fin 2) * 4096 + 1 * y1.val = y1.val; omega
  rw [he, out_apply]
  show entry _ _ _ = entry _ _ _
  refine congr (congrArg₂ entry (funext fun l => congrArg₂ (· + ·) (iblk0 m c t y0 l) (iblk1 m c t y0 l)) (iblk2 m c t y1)) rfl

theorem covered (i : S16384x4096.Idx) :
    ∃ t : Fin cfg0.N, (cfg0.win 3).flush t = true ∧ i ∈ ((cfg0.win 3).blk t).view.set := by
  idx_vars i
  refine ⟨(⟨i0.val / 512, by show _ < 32; omega⟩ : Fin cfg0.N), flush0_3 _, ?_⟩
  show _ ∈ ((View.whole main_v6).slice (win0_3.rect _)).set
  rw [View.set_slice_whole, Rect.mem_set_unit]
  obtain ⟨-, -, -, -, -, -, e0, e1⟩ := idx_facts (⟨i0.val / 512, by show _ < 32; omega⟩ : Fin cfg0.N)
  intro a
  match a with
  | ⟨0, _⟩ => show win0_3.index _ (0 : Fin 2) * 512 ≤ i0.val ∧ i0.val < win0_3.index _ (0 : Fin 2) * 512 + 512
              rw [e0]; dsimp only; omega
  | ⟨1, _⟩ => show win0_3.index _ (1 : Fin 2) * 4096 ≤ i1.val ∧ i1.val < win0_3.index _ (1 : Fin 2) * 4096 + 4096
              rw [e1]; omega

theorem final (c : Dev nD) : (dats m 0 c).arrAt 3 cfg0.N = whole (V m c main_v1) (V m c main_v4) (V m c main_v5) :=
  (dats m 0 c).arrAt_eq_of_cover 3 _ (fun t _ => flushed_eq m c t) covered

/-- The residual stream laid out in padded rows: 112 zero rows before each batch element's 8208. -/
def rows (x : FVec Ideal S2x8208x4096 .f32) : FVec Ideal S16640x4096 .f32 :=
  shapeCast S16640x4096 (pad S2x8320x4096 ![0, 112, 0] ![0, 0, 0] ![0, 0, 0] x (sitofp .f32 (constantI S_ 32 0#32)) pads_S2x8208x4096_S2x8320x4096_000_11200_000 h_S_) shapeCasts_S2x8320x4096_S16640x4096

/-- The row of the frames at result row `r` is a token's row. -/
theorem rows_src (x : FVec Ideal S2x8208x4096 .f32) (r : Fin 16384) (k : Fin 4096) :
    rows x (ix2 (src r) k) = x (ix3 ⟨r.val / 8192, by omega⟩ ⟨16 + r.val % 8192, by omega⟩ k) := by
  pointwise [rows, src]
  have h1 : (r.val / 8192 * 8320 + 128 + r.val % 8192) / 8320 = r.val / 8192 := by omega
  have h2 : (r.val / 8192 * 8320 + 128 + r.val % 8192) % 8320 = 128 + r.val % 8192 := by omega
  have hr := r.isLt
  rw [dif_pos (by rw [h1, h2]; omega)]
  refine congrArg x (funext fun a => Fin.ext ?_)
  match a with
  | ⟨0, _⟩ => exact h1
  | ⟨1, _⟩ => show (r.val / 8192 * 8320 + 128 + r.val % 8192) % 8320 - 112 = 16 + r.val % 8192; omega
  | ⟨2, _⟩ => rfl

/-- The gain as the one row that the kernel reads. -/
def gain (g : FVec Ideal S4096 .f32) : FVec Ideal S1x4096 .f32 := shapeCast S1x4096 g shapeCasts_S4096_S1x4096

theorem V_v1 (c : Dev nD) : V m c main_v1 = rows (m ((c : Thread nD τ).loc main_arg0)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

theorem V_v4 (c : Dev nD) : V m c main_v4 = truncf .bf16 (rows (m ((c : Thread nD τ).loc main_arg1))) bitsLt_bf16_f32 := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

theorem V_v5 (c : Dev nD) : V m c main_v5 = gain (m ((c : Thread nD τ).loc main_arg2)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

/-- The kernel's array is the reference's. -/
theorem whole_eq_ref (c : Dev nD) : whole (V m c main_v1) (V m c main_v4) (V m c main_v5)
    = ref (m ((c : Thread nD τ).loc main_arg0)) (m ((c : Thread nD τ).loc main_arg1)) (m ((c : Thread nD τ).loc main_arg2)) := by
  rw [V_v1, V_v4, V_v5]
  generalize m ((c : Thread nD τ).loc main_arg0) = h
  generalize m ((c : Thread nD τ).loc main_arg1) = d
  generalize m ((c : Thread nD τ).loc main_arg2) = g
  funext i
  idx_vars i
  rw [ref_apply]
  show entry _ _ _ = entry _ _ _
  refine congr (congrArg₂ entry (funext fun l => congrArg₂ (· + ·) (rows_src h i0 l) (rows_src d i0 l)) ?_) rfl
  pointwise [gain]

/-- The run of the kernel, its result the reference's norm. -/
theorem run : θ_run defs (onTc (τ := τ) (main (F := Ideal))) ⟨m, fun _ => 0, ρ⟩ fun r => ∀ c : Dev nD,
      r.2.mem ((c : Thread nD τ).loc main_v6) = ref (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((final m c).trans (whole_eq_ref m c)), (h c).2⟩) (Value.run_blocks m ρ)

end Cert.FinalNorm

end
-- ==== Proof.EvInProj.lean ====
/- The wide columns of the attention layer's input projection: the array the kernel leaves is, entry by entry, the sum of products
   that the reference's product and padding give. -/
module

public import proofs.«01_k».proof.Proof.Gen.EvInKernelIdeal.Value
public import proofs.«01_k».proof.Proof.Gen.EvInReferenceIdeal.Run
public import Idealize.ShloMosaic.Lib.Pointwise
public import Idealize.ShloMosaic.Lib.Pipeline.Value

@[expose] public section

set_option maxRecDepth 16384

noncomputable section

namespace Cert.EvInProj

section
open Cert.EvInReferenceIdeal Cert.EvInReferenceIdeal.Gen Idealize.ShloMosaic

/-- The reference's padded product, without the 16 columns between and the 32 after. -/
def ref (x : FVec Ideal S2x8208x4096 .f32) (w : FVec Ideal S4096x12336 .f32) : FVec Ideal S16640x12288 .bf16 :=
  truncf .bf16 (shapeCast _ (pad S2x8320x12288 ![0, 112, 0] ![0, 0, 0] ![0, 0, 0] (concatenate S2x8208x12288 2 [⟨S2x8208x6144, (extractStridedSlice S2x8208x6144 ![0, 0, 0] (Host.dotGeneral (F := Ideal) (φ₁ := .f32) (φ₂ := .f32) dot_S2x8208x4096_S4096x12336_S2x8208x12336_2_0_01_1_n_n none x w) slices_S2x8208x12336_S2x8208x6144_0_0_0)⟩, ⟨S2x8208x6144, (extractStridedSlice S2x8208x6144 ![0, 0, 6160] (Host.dotGeneral (F := Ideal) (φ₁ := .f32) (φ₂ := .f32) dot_S2x8208x4096_S4096x12336_S2x8208x12336_2_0_01_1_n_n none x w) slices_S2x8208x12336_S2x8208x6144_0_0_6160)⟩] concatenates_S2x8208x6144_S2x8208x6144_S2x8208x12288_d2) (sitofp .f32 (constantI S_ 32 0#32)) pads_S2x8208x12288_S2x8320x12288_000_11200_000 h_S_) shapeCasts_S2x8320x12288_S16640x12288) bitsLt_bf16_f32

end

open Cert.EvInKernelIdeal Cert.EvInKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of two whole matrices, entry by entry. -/
def prod (A : S16640x4096.Idx → EReal) (B : S4096x12288.Idx → EReal) : S16640x12288.Idx → EReal :=
  fun i => ∑ k : Fin 4096, A (ix2 (i 0) k) * B (ix2 k (i 1))

theorem idx_facts : ∀ t : Fin cfg0.N, win0_0.index t (0 : Fin 2) = t.val / 12 ∧ win0_0.index t (1 : Fin 2) = 0
    ∧ win0_1.index t (0 : Fin 2) = 0 ∧ win0_1.index t (1 : Fin 2) = t.val % 12
    ∧ win0_2.index t (0 : Fin 2) = t.val / 12 ∧ win0_2.index t (1 : Fin 2) = t.val % 12 :=
  (by decide +kernel : ∀ t : Fin grid0.N, _)

theorem lt_N (t : Fin cfg0.N) : t.val < 156 := t.isLt

theorem hz : (![0, 0] : Fin 2 → Nat) = fun _ => 0 := funext fun a => by fin_cases a <;> rfl

/-- Row block `t / 12` of the left matrix. -/
theorem iblk0 (c : Dev nD) (t : Fin cfg0.N) (r : Fin 1280) (k : Fin 4096) :
    iblk m c 0 t (ix2 r k) = V m c main_v5 (ix2 ⟨t.val / 12 * 1280 + r.val, by have := lt_N t; omega⟩ k) := by
  obtain ⟨e0, e1, -⟩ := idx_facts t
  show V m c main_v5 (((cfg0.win 0).blk t).view.emb (ix2 r k)) = _
  refine congrArg (V m c main_v5) (funext fun a => Fin.ext ?_)
  match a with
  | ⟨0, _⟩ => show win0_0.index t (0 : Fin 2) * 1280 + 1 * r.val = t.val / 12 * 1280 + r.val; omega
  | ⟨1, _⟩ => show win0_0.index t (1 : Fin 2) * 4096 + 1 * k.val = k.val; omega

/-- Column block `t % 12` of the right matrix. -/
theorem iblk1 (c : Dev nD) (t : Fin cfg0.N) (k : Fin 4096) (l : Fin 1024) :
    iblk m c 1 t (ix2 k l) = V m c main_v6 (ix2 k ⟨t.val % 12 * 1024 + l.val, by omega⟩) := by
  obtain ⟨-, -, e0, e1, -⟩ := idx_facts t
  show V m c main_v6 (((cfg0.win 1).blk t).view.emb (ix2 k l)) = _
  refine congrArg (V m c main_v6) (funext fun a => Fin.ext ?_)
  match a with
  | ⟨0, _⟩ => show win0_1.index t (0 : Fin 2) * 4096 + 1 * k.val = k.val; omega
  | ⟨1, _⟩ => show win0_1.index t (1 : Fin 2) * 1024 + 1 * l.val = t.val % 12 * 1024 + l.val; omega

/-- The body's block is the product of its two blocks. -/
theorem out_apply (x0 : Vec Ideal S1280x4096 .bf16) (x1 : Vec Ideal S4096x1024 .bf16) (r : Fin 1280) (l : Fin 1024) :
    out0_2 x0 x1 (ix2 r l) = ∑ k : Fin 4096, x0 (ix2 r k) * x1 (ix2 k l) := by
  unfold out0_2
  rw [View.canon_unit_zero hz, View.ld_unit_zero hz, View.ld_unit_zero hz]
  pointwise [k0_pay1]

theorem flushed_eq (c : Dev nD) (t : Fin cfg0.N) :
    (dats m 0 c).flushed 2 t = ((cfg0.win 2).blk t).view.read (Elt Ideal) (prod (V m c main_v5) (V m c main_v6)) := by
  rw [Value.flushed2]
  funext y
  idx_vars y
  obtain ⟨-, -, -, -, e0, e1⟩ := idx_facts t
  show out0_2 (iblk m c 0 t) (iblk m c 1 t) (ix2 y0 y1) = prod (V m c main_v5) (V m c main_v6) (((cfg0.win 2).blk t).view.emb (ix2 y0 y1))
  have he : ((cfg0.win 2).blk t).view.emb (ix2 y0 y1) = (ix2 ⟨t.val / 12 * 1280 + y0.val, by have := lt_N t; omega⟩ ⟨t.val % 12 * 1024 + y1.val, by omega⟩ : S16640x12288.Idx) := by
    refine funext fun a => Fin.ext ?_
    match a with
    | ⟨0, _⟩ => show win0_2.index t (0 : Fin 2) * 1280 + 1 * y0.val = t.val / 12 * 1280 + y0.val; omega
    | ⟨1, _⟩ => show win0_2.index t (1 : Fin 2) * 1024 + 1 * y1.val = t.val % 12 * 1024 + y1.val; omega
  rw [he, out_apply]
  exact Finset.sum_congr rfl fun k _ => by rw [iblk0, iblk1]; rfl

theorem covered (i : S16640x12288.Idx) :
    ∃ t : Fin cfg0.N, (cfg0.win 2).flush t = true ∧ i ∈ ((cfg0.win 2).blk t).view.set := by
  idx_vars i
  refine ⟨(⟨i0.val / 1280 * 12 + i1.val / 1024, by show _ < 156; omega⟩ : Fin cfg0.N), flush0_2 _, ?_⟩
  show _ ∈ ((View.whole main_v7).slice (win0_2.rect _)).set
  rw [View.set_slice_whole, Rect.mem_set_unit]
  obtain ⟨-, -, -, -, e0, e1⟩ := idx_facts (⟨i0.val / 1280 * 12 + i1.val / 1024, by show _ < 156; omega⟩ : Fin cfg0.N)
  intro a
  match a with
  | ⟨0, _⟩ => show win0_2.index _ (0 : Fin 2) * 1280 ≤ i0.val ∧ i0.val < win0_2.index _ (0 : Fin 2) * 1280 + 1280
              rw [e0]; dsimp only; omega
  | ⟨1, _⟩ => show win0_2.index _ (1 : Fin 2) * 1024 ≤ i1.val ∧ i1.val < win0_2.index _ (1 : Fin 2) * 1024 + 1024
              rw [e1]; dsimp only; omega

theorem final (c : Dev nD) : (dats m 0 c).arrAt 2 cfg0.N = prod (V m c main_v5) (V m c main_v6) :=
  (dats m 0 c).arrAt_eq_of_cover 2 _ (fun t _ => flushed_eq m c t) covered

/-- The activations laid out in padded rows: 112 zero rows before each batch element's 8208. -/
def rows (x : FVec Ideal S2x8208x4096 .f32) : FVec Ideal S16640x4096 .bf16 :=
  truncf .bf16 (shapeCast S16640x4096 (pad S2x8320x4096 ![0, 112, 0] ![0, 0, 0] ![0, 0, 0] x (sitofp .f32 (constantI S_ 32 0#32)) pads_S2x8208x4096_S2x8320x4096_000_11200_000 h_S_) shapeCasts_S2x8320x4096_S16640x4096) bitsLt_bf16_f32

theorem V_v5 (c : Dev nD) : V m c main_v5 = rows (m ((c : Thread nD τ).loc main_arg0)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- The weights as the kernel reads them: columns 0 … 6143 and 6160 … 12303. -/
def weights (w : FVec Ideal S4096x12336 .f32) : FVec Ideal S4096x12288 .bf16 :=
  truncf .bf16 (concatenate S4096x12288 1 [⟨S4096x6144, extractStridedSlice S4096x6144 ![0, 0] w slices_S4096x12336_S4096x6144_0_0⟩, ⟨S4096x6144, extractStridedSlice S4096x6144 ![0, 6160] w slices_S4096x12336_S4096x6144_0_6160⟩] concatenates_S4096x6144_S4096x6144_S4096x12288_d1) bitsLt_bf16_f32

theorem V_v6 (c : Dev nD) : V m c main_v6 = weights (m ((c : Thread nD τ).loc main_arg1)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- The word 0 read as a number is 0. -/
theorem zero_word : FloatOps.sitofp (F := Ideal) .f32 (0#32) = (0 : EReal) := by
  simp [FloatOps.sitofp]

/-- The padded rows times the kept columns are the kept columns of the padded product: a padding row's products are zero. -/
theorem prod_eq_ref (c : Dev nD) : prod (V m c main_v5) (V m c main_v6)
    = ref (m ((c : Thread nD τ).loc main_arg0)) (m ((c : Thread nD τ).loc main_arg1)) := by
  rw [V_v5, V_v6]
  generalize m ((c : Thread nD τ).loc main_arg0) = x
  generalize m ((c : Thread nD τ).loc main_arg1) = w
  funext i
  idx_vars i
  pointwise [prod, ref, rows, weights]
  by_cases h : i0.val / 8320 < 2 ∧ 112 ≤ i0.val % 8320 ∧ i0.val % 8320 - 112 < 8208
  · simp only [dif_pos h]
    by_cases hc : i1.val < 6144
    · simp only [dif_pos hc]
    · simp only [dif_neg hc]
  · simp only [dif_neg h, zero_word, zero_mul, Finset.sum_const_zero]

/-- The run of the kernel, its result the reference's padded product. -/
theorem run : θ_run defs (onTc (τ := τ) (main (F := Ideal))) ⟨m, fun _ => 0, ρ⟩ fun r => ∀ c : Dev nD,
      r.2.mem ((c : Thread nD τ).loc main_v7) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((final m c).trans (prod_eq_ref m c)), (h c).2⟩) (Value.run_blocks m ρ)

end Cert.EvInProj

end
-- ==== Proof.EvSmProj.lean ====
/- The gate columns of the attention layer's input projection: the array the kernel leaves is, entry by entry, the sum of products
   that the reference's product and padding give. -/
module

public import proofs.«01_k».proof.Proof.Gen.EvSmKernelIdeal.Value
public import proofs.«01_k».proof.Proof.Gen.EvSmReferenceIdeal.Run
public import Idealize.ShloMosaic.Lib.Pointwise
public import Idealize.ShloMosaic.Lib.Pipeline.Value

@[expose] public section

set_option maxRecDepth 16384

noncomputable section

namespace Cert.EvSmProj

section
open Cert.EvSmReferenceIdeal Cert.EvSmReferenceIdeal.Gen Idealize.ShloMosaic

/-- The reference's gate columns of the product, padded before the rows and after the columns. -/
def ref (x : FVec Ideal S2x8208x4096 .f32) (w : FVec Ideal S4096x12336 .f32) : FVec Ideal S16640x128 .f32 :=
  shapeCast _ (pad S2x8320x128 ![0, 112, 0] ![0, 0, 80] ![0, 0, 0] (concatenate S2x8208x48 2 [⟨S2x8208x16, (extractStridedSlice S2x8208x16 ![0, 0, 6144] (Host.dotGeneral (F := Ideal) (φ₁ := .f32) (φ₂ := .f32) dot_S2x8208x4096_S4096x12336_S2x8208x12336_2_0_01_1_n_n none x w) slices_S2x8208x12336_S2x8208x16_0_0_6144)⟩, ⟨S2x8208x32, (extractStridedSlice S2x8208x32 ![0, 0, 12304] (Host.dotGeneral (F := Ideal) (φ₁ := .f32) (φ₂ := .f32) dot_S2x8208x4096_S4096x12336_S2x8208x12336_2_0_01_1_n_n none x w) slices_S2x8208x12336_S2x8208x32_0_0_12304)⟩] concatenates_S2x8208x16_S2x8208x32_S2x8208x48_d2) (sitofp .f32 (constantI S_ 32 0#32)) pads_S2x8208x48_S2x8320x128_000_11200_0800 h_S_) shapeCasts_S2x8320x128_S16640x128

end

open Cert.EvSmKernelIdeal Cert.EvSmKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of two whole matrices, entry by entry. -/
def prod (A : S16640x4096.Idx → EReal) (B : S4096x128.Idx → EReal) : S16640x128.Idx → EReal :=
  fun i => ∑ k : Fin 4096, A (ix2 (i 0) k) * B (ix2 k (i 1))

theorem idx_facts : ∀ t : Fin cfg0.N, win0_0.index t (0 : Fin 2) = t.val / 1 ∧ win0_0.index t (1 : Fin 2) = 0
    ∧ win0_1.index t (0 : Fin 2) = 0 ∧ win0_1.index t (1 : Fin 2) = t.val % 1
    ∧ win0_2.index t (0 : Fin 2) = t.val / 1 ∧ win0_2.index t (1 : Fin 2) = t.val % 1 :=
  (by decide +kernel : ∀ t : Fin grid0.N, _)

theorem lt_N (t : Fin cfg0.N) : t.val < 13 := t.isLt

theorem hz : (![0, 0] : Fin 2 → Nat) = fun _ => 0 := funext fun a => by fin_cases a <;> rfl

/-- Row block `t` of the left matrix. -/
theorem iblk0 (c : Dev nD) (t : Fin cfg0.N) (r : Fin 1280) (k : Fin 4096) :
    iblk m c 0 t (ix2 r k) = V m c main_v6 (ix2 ⟨t.val / 1 * 1280 + r.val, by have := lt_N t; omega⟩ k) := by
  obtain ⟨e0, e1, -⟩ := idx_facts t
  show V m c main_v6 (((cfg0.win 0).blk t).view.emb (ix2 r k)) = _
  refine congrArg (V m c main_v6) (funext fun a => Fin.ext ?_)
  match a with
  | ⟨0, _⟩ => show win0_0.index t (0 : Fin 2) * 1280 + 1 * r.val = t.val / 1 * 1280 + r.val; omega
  | ⟨1, _⟩ => show win0_0.index t (1 : Fin 2) * 4096 + 1 * k.val = k.val; omega

/-- Column block `t % 1` of the right matrix. -/
theorem iblk1 (c : Dev nD) (t : Fin cfg0.N) (k : Fin 4096) (l : Fin 128) :
    iblk m c 1 t (ix2 k l) = V m c main_v7 (ix2 k ⟨t.val % 1 * 128 + l.val, by omega⟩) := by
  obtain ⟨-, -, e0, e1, -⟩ := idx_facts t
  show V m c main_v7 (((cfg0.win 1).blk t).view.emb (ix2 k l)) = _
  refine congrArg (V m c main_v7) (funext fun a => Fin.ext ?_)
  match a with
  | ⟨0, _⟩ => show win0_1.index t (0 : Fin 2) * 4096 + 1 * k.val = k.val; omega
  | ⟨1, _⟩ => show win0_1.index t (1 : Fin 2) * 128 + 1 * l.val = t.val % 1 * 128 + l.val; omega

/-- The body's block is the product of its two blocks. -/
theorem out_apply (x0 : Vec Ideal S1280x4096 .bf16) (x1 : Vec Ideal S4096x128 .bf16) (r : Fin 1280) (l : Fin 128) :
    out0_2 x0 x1 (ix2 r l) = ∑ k : Fin 4096, x0 (ix2 r k) * x1 (ix2 k l) := by
  unfold out0_2
  rw [View.canon_unit_zero hz, View.ld_unit_zero hz, View.ld_unit_zero hz]
  pointwise [k0_pay1]

theorem flushed_eq (c : Dev nD) (t : Fin cfg0.N) :
    (dats m 0 c).flushed 2 t = ((cfg0.win 2).blk t).view.read (Elt Ideal) (prod (V m c main_v6) (V m c main_v7)) := by
  rw [Value.flushed2]
  funext y
  idx_vars y
  obtain ⟨-, -, -, -, e0, e1⟩ := idx_facts t
  show out0_2 (iblk m c 0 t) (iblk m c 1 t) (ix2 y0 y1) = prod (V m c main_v6) (V m c main_v7) (((cfg0.win 2).blk t).view.emb (ix2 y0 y1))
  have he : ((cfg0.win 2).blk t).view.emb (ix2 y0 y1) = (ix2 ⟨t.val / 1 * 1280 + y0.val, by have := lt_N t; omega⟩ ⟨t.val % 1 * 128 + y1.val, by omega⟩ : S16640x128.Idx) := by
    refine funext fun a => Fin.ext ?_
    match a with
    | ⟨0, _⟩ => show win0_2.index t (0 : Fin 2) * 1280 + 1 * y0.val = t.val / 1 * 1280 + y0.val; omega
    | ⟨1, _⟩ => show win0_2.index t (1 : Fin 2) * 128 + 1 * y1.val = t.val % 1 * 128 + y1.val; omega
  rw [he, out_apply]
  exact Finset.sum_congr rfl fun k _ => by rw [iblk0, iblk1]; rfl

theorem covered (i : S16640x128.Idx) :
    ∃ t : Fin cfg0.N, (cfg0.win 2).flush t = true ∧ i ∈ ((cfg0.win 2).blk t).view.set := by
  idx_vars i
  refine ⟨(⟨i0.val / 1280 * 1 + i1.val / 128, by show _ < 13; omega⟩ : Fin cfg0.N), flush0_2 _, ?_⟩
  show _ ∈ ((View.whole main_v8).slice (win0_2.rect _)).set
  rw [View.set_slice_whole, Rect.mem_set_unit]
  obtain ⟨-, -, -, -, e0, e1⟩ := idx_facts (⟨i0.val / 1280 * 1 + i1.val / 128, by show _ < 13; omega⟩ : Fin cfg0.N)
  intro a
  match a with
  | ⟨0, _⟩ => show win0_2.index _ (0 : Fin 2) * 1280 ≤ i0.val ∧ i0.val < win0_2.index _ (0 : Fin 2) * 1280 + 1280
              rw [e0]; dsimp only; omega
  | ⟨1, _⟩ => show win0_2.index _ (1 : Fin 2) * 128 ≤ i1.val ∧ i1.val < win0_2.index _ (1 : Fin 2) * 128 + 128
              rw [e1]; dsimp only; omega

theorem final (c : Dev nD) : (dats m 0 c).arrAt 2 cfg0.N = prod (V m c main_v6) (V m c main_v7) :=
  (dats m 0 c).arrAt_eq_of_cover 2 _ (fun t _ => flushed_eq m c t) covered

/-- The activations laid out in padded rows: 112 zero rows before each batch element's 8208. -/
def rows (x : FVec Ideal S2x8208x4096 .f32) : FVec Ideal S16640x4096 .bf16 :=
  truncf .bf16 (shapeCast S16640x4096 (pad S2x8320x4096 ![0, 112, 0] ![0, 0, 0] ![0, 0, 0] x (sitofp .f32 (constantI S_ 32 0#32)) pads_S2x8208x4096_S2x8320x4096_000_11200_000 h_S_) shapeCasts_S2x8320x4096_S16640x4096) bitsLt_bf16_f32

theorem V_v6 (c : Dev nD) : V m c main_v6 = rows (m ((c : Thread nD τ).loc main_arg0)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

/-- The weights as the kernel reads them: columns 6144 … 6159, 12304 … 12335, and 80 columns of zeros. -/
def weights (w : FVec Ideal S4096x12336 .f32) : FVec Ideal S4096x128 .bf16 :=
  truncf .bf16 (pad S4096x128 ![0, 0] ![0, 80] ![0, 0] (concatenate S4096x48 1 [⟨S4096x16, extractStridedSlice S4096x16 ![0, 6144] w slices_S4096x12336_S4096x16_0_6144⟩, ⟨S4096x32, extractStridedSlice S4096x32 ![0, 12304] w slices_S4096x12336_S4096x32_0_12304⟩] concatenates_S4096x16_S4096x32_S4096x48_d1) (sitofp .f32 (constantI S_ 32 0#32)) pads_S4096x48_S4096x128_000_0800 h_S_) bitsLt_bf16_f32

theorem V_v7 (c : Dev nD) : V m c main_v7 = weights (m ((c : Thread nD τ).loc main_arg1)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

/-- The word 0 read as a number is 0. -/
theorem zero_word : FloatOps.sitofp (F := Ideal) .f32 (0#32) = (0 : EReal) := by
  simp [FloatOps.sitofp]

/-- The padded rows times the gate columns are the padded gate columns of the product. -/
theorem prod_eq_ref (c : Dev nD) : prod (V m c main_v6) (V m c main_v7)
    = ref (m ((c : Thread nD τ).loc main_arg0)) (m ((c : Thread nD τ).loc main_arg1)) := by
  rw [V_v6, V_v7]
  generalize m ((c : Thread nD τ).loc main_arg0) = x
  generalize m ((c : Thread nD τ).loc main_arg1) = w
  funext i
  idx_vars i
  pointwise [prod, ref, rows, weights]
  by_cases h : i0.val / 8320 < 2 ∧ 112 ≤ i0.val % 8320 ∧ i0.val % 8320 - 112 < 8208
  · by_cases hc : i1.val < 48
    · have hh : i0.val / 8320 < 2 ∧ (112 ≤ i0.val % 8320 ∧ i0.val % 8320 - 112 < 8208) ∧ i1.val < 48 := ⟨h.1, h.2, hc⟩
      simp only [dif_pos h, dif_pos hc, dif_pos hh]
      by_cases hd : i1.val < 16
      · simp only [dif_pos hd]
      · simp only [dif_neg hd]
    · have hh : ¬ (i0.val / 8320 < 2 ∧ (112 ≤ i0.val % 8320 ∧ i0.val % 8320 - 112 < 8208) ∧ i1.val < 48) := fun e => hc e.2.2
      simp only [dif_neg hc, dif_neg hh, zero_word, mul_zero, Finset.sum_const_zero]
  · have hh : ¬ (i0.val / 8320 < 2 ∧ (112 ≤ i0.val % 8320 ∧ i0.val % 8320 - 112 < 8208) ∧ i1.val < 48) := fun e => h ⟨e.1, e.2.1⟩
    simp only [dif_neg h, dif_neg hh, zero_word, zero_mul, Finset.sum_const_zero]

/-- The run of the kernel, its result the reference's padded product. -/
theorem run : θ_run defs (onTc (τ := τ) (main (F := Ideal))) ⟨m, fun _ => 0, ρ⟩ fun r => ∀ c : Dev nD,
      r.2.mem ((c : Thread nD τ).loc main_v8) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((final m c).trans (prod_eq_ref m c)), (h c).2⟩) (Value.run_blocks m ρ)

end Cert.EvSmProj

end
-- ==== Proof.EvOutProj.lean ====
/- The output projection of the attention layer with the residual added: the array the kernel leaves is, entry by entry,
   the sum of products plus the residual that the reference's product, sum and padding give. -/
module

public import proofs.«01_k».proof.Proof.Gen.EvOutKernelIdeal.Value
public import proofs.«01_k».proof.Proof.Gen.EvOutReferenceIdeal.Run
public import Idealize.ShloMosaic.Lib.Pointwise
public import Idealize.ShloMosaic.Lib.Pipeline.Value

@[expose] public section

set_option maxRecDepth 16384

noncomputable section

namespace Cert.EvOutProj

open Cert.EvOutKernelIdeal Cert.EvOutKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of two whole matrices with a third added, entry by entry. -/
def prod (A : S16640x4096.Idx → EReal) (B : S4096x4096.Idx → EReal) (H : S16640x4096.Idx → EReal) : S16640x4096.Idx → EReal :=
  fun i => (∑ k : Fin 4096, A (ix2 (i 0) k) * B (ix2 k (i 1))) + H i

theorem idx_facts : ∀ t : Fin cfg0.N, win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8 :=
  (by decide +kernel : ∀ t : Fin grid0.N, _)

theorem lt_N (t : Fin cfg0.N) : t.val < 104 := t.isLt

theorem hz : (![0, 0] : Fin 2 → Nat) = fun _ => 0 := funext fun a => by fin_cases a <;> rfl

/-- Row block `t / 8` of the left matrix. -/
theorem iblk0 (c : Dev nD) (t : Fin cfg0.N) (r : Fin 1280) (k : Fin 4096) :
    iblk m c 0 t (ix2 r k) = V m c main_v2 (ix2 ⟨t.val / 8 * 1280 + r.val, by have := lt_N t; omega⟩ k) := by
  obtain ⟨e0, e1, -⟩ := idx_facts t
  show V m c main_v2 (((cfg0.win 0).blk t).view.emb (ix2 r k)) = _
  refine congrArg (V m c main_v2) (funext fun a => Fin.ext ?_)
  match a with
  | ⟨0, _⟩ => show win0_0.index t (0 : Fin 2) * 1280 + 1 * r.val = t.val / 8 * 1280 + r.val; omega
  | ⟨1, _⟩ => show win0_0.index t (1 : Fin 2) * 4096 + 1 * k.val = k.val; omega

/-- Column block `t % 8` of the right matrix. -/
theorem iblk1 (c : Dev nD) (t : Fin cfg0.N) (k : Fin 4096) (l : Fin 512) :
    iblk m c 1 t (ix2 k l) = V m c main_v3 (ix2 k ⟨t.val % 8 * 512 + l.val, by omega⟩) := by
  obtain ⟨-, -, e0, e1, -⟩ := idx_facts t
  show V m c main_v3 (((cfg0.win 1).blk t).view.emb (ix2 k l)) = _
  refine congrArg (V m c main_v3) (funext fun a => Fin.ext ?_)
  match a with
  | ⟨0, _⟩ => show win0_1.index t (0 : Fin 2) * 4096 + 1 * k.val = k.val; omega
  | ⟨1, _⟩ => show win0_1.index t (1 : Fin 2) * 512 + 1 * l.val = t.val % 8 * 512 + l.val; omega

/-- The residual's block. -/
theorem iblk2 (c : Dev nD) (t : Fin cfg0.N) (r : Fin 1280) (l : Fin 512) :
    iblk m c 2 t (ix2 r l) = V m c main_v5 (ix2 ⟨t.val / 8 * 1280 + r.val, by have := lt_N t; omega⟩ ⟨t.val % 8 * 512 + l.val, by omega⟩) := by
  obtain ⟨-, -, -, -, e0, e1, -⟩ := idx_facts t
  show V m c main_v5 (((cfg0.win 2).blk t).view.emb (ix2 r l)) = _
  refine congrArg (V m c main_v5) (funext fun a => Fin.ext ?_)
  match a with
  | ⟨0, _⟩ => show win0_2.index t (0 : Fin 2) * 1280 + 1 * r.val = t.val / 8 * 1280 + r.val; omega
  | ⟨1, _⟩ => show win0_2.index t (1 : Fin 2) * 512 + 1 * l.val = t.val % 8 * 512 + l.val; omega

/-- The body's block is the product of its two blocks plus the residual's. -/
theorem out_apply (x0 : Vec Ideal S1280x4096 .bf16) (x1 : Vec Ideal S4096x512 .bf16) (x2 : Vec Ideal S1280x512 .f32) (r : Fin 1280) (l : Fin 512) :
    out0_3 x0 x1 x2 (ix2 r l) = (∑ k : Fin 4096, x0 (ix2 r k) * x1 (ix2 k l)) + x2 (ix2 r l) := by
  unfold out0_3
  rw [View.canon_unit_zero hz, View.ld_unit_zero hz, View.ld_unit_zero hz, View.ld_unit_zero hz]
  pointwise [k0_pay1]

theorem flushed_eq (c : Dev nD) (t : Fin cfg0.N) :
    (dats m 0 c).flushed 3 t = ((cfg0.win 3).blk t).view.read (Elt Ideal) (prod (V m c main_v2) (V m c main_v3) (V m c main_v5)) := by
  rw [Value.flushed3]
  funext y
  idx_vars y
  obtain ⟨-, -, -, -, -, -, e0, e1⟩ := idx_facts t
  show out0_3 (iblk m c 0 t) (iblk m c 1 t) (iblk m c 2 t) (ix2 y0 y1) = prod (V m c main_v2) (V m c main_v3) (V m c main_v5) (((cfg0.win 3).blk t).view.emb (ix2 y0 y1))
  have he : ((cfg0.win 3).blk t).view.emb (ix2 y0 y1) = (ix2 ⟨t.val / 8 * 1280 + y0.val, by have := lt_N t; omega⟩ ⟨t.val % 8 * 512 + y1.val, by omega⟩ : S16640x4096.Idx) := by
    refine funext fun a => Fin.ext ?_
    match a with
    | ⟨0, _⟩ => show win0_3.index t (0 : Fin 2) * 1280 + 1 * y0.val = t.val / 8 * 1280 + y0.val; omega
    | ⟨1, _⟩ => show win0_3.index t (1 : Fin 2) * 512 + 1 * y1.val = t.val % 8 * 512 + y1.val; omega
  rw [he, out_apply, iblk2]
  refine congrArg (· + V m c main_v5 (ix2 _ _)) ?_
  exact Finset.sum_congr rfl fun k _ => by rw [iblk0, iblk1]; rfl

theorem covered (i : S16640x4096.Idx) :
    ∃ t : Fin cfg0.N, (cfg0.win 3).flush t = true ∧ i ∈ ((cfg0.win 3).blk t).view.set := by
  idx_vars i
  refine ⟨(⟨i0.val / 1280 * 8 + i1.val / 512, by show _ < 104; omega⟩ : Fin cfg0.N), flush0_3 _, ?_⟩
  show _ ∈ ((View.whole main_v6).slice (win0_3.rect _)).set
  rw [View.set_slice_whole, Rect.mem_set_unit]
  obtain ⟨-, -, -, -, -, -, e0, e1⟩ := idx_facts (⟨i0.val / 1280 * 8 + i1.val / 512, by show _ < 104; omega⟩ : Fin cfg0.N)
  intro a
  match a with
  | ⟨0, _⟩ => show win0_3.index _ (0 : Fin 2) * 1280 ≤ i0.val ∧ i0.val < win0_3.index _ (0 : Fin 2) * 1280 + 1280
              rw [e0]; dsimp only; omega
  | ⟨1, _⟩ => show win0_3.index _ (1 : Fin 2) * 512 ≤ i1.val ∧ i1.val < win0_3.index _ (1 : Fin 2) * 512 + 512
              rw [e1]; dsimp only; omega

theorem final (c : Dev nD) : (dats m 0 c).arrAt 3 cfg0.N = prod (V m c main_v2) (V m c main_v3) (V m c main_v5) :=
  (dats m 0 c).arrAt_eq_of_cover 3 _ (fun t _ => flushed_eq m c t) covered

/-- The activations laid out in padded rows: 112 zero rows before each batch element's 8208. -/
def rows (x : FVec Ideal S2x8208x4096 .f32) : FVec Ideal S16640x4096 .bf16 :=
  truncf .bf16 (shapeCast S16640x4096 (pad S2x8320x4096 ![0, 112, 0] ![0, 0, 0] ![0, 0, 0] x (sitofp .f32 (constantI S_ 32 0#32)) pads_S2x8208x4096_S2x8320x4096_000_11200_000 h_S_) shapeCasts_S2x8320x4096_S16640x4096) bitsLt_bf16_f32

/-- The residual laid out the same way. -/
def resRows (x : FVec Ideal S2x8208x4096 .f32) : FVec Ideal S16640x4096 .f32 :=
  shapeCast S16640x4096 (pad S2x8320x4096 ![0, 112, 0] ![0, 0, 0] ![0, 0, 0] x (sitofp .f32 (constantI S_ 32 0#32)) pads_S2x8208x4096_S2x8320x4096_000_11200_000 h_S_) shapeCasts_S2x8320x4096_S16640x4096

theorem V_v2 (c : Dev nD) : V m c main_v2 = rows (m ((c : Thread nD τ).loc main_arg0)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

theorem V_v5 (c : Dev nD) : V m c main_v5 = resRows (m ((c : Thread nD τ).loc main_arg2)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

/-- The weights as the kernel reads them. -/
def weights (w : FVec Ideal S4096x4096 .f32) : FVec Ideal S4096x4096 .bf16 := truncf .bf16 w bitsLt_bf16_f32

theorem V_v3 (c : Dev nD) : V m c main_v3 = weights (m ((c : Thread nD τ).loc main_arg1)) := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results <;> rfl

/-- The reference's padded product and sum. -/
def ref (x : FVec Ideal S2x8208x4096 .f32) (w : FVec Ideal S4096x4096 .f32) (h : FVec Ideal S2x8208x4096 .f32) : FVec Ideal S16640x4096 .f32 :=
  shapeCast Cert.EvOutReferenceIdeal.S16640x4096 (pad Cert.EvOutReferenceIdeal.S2x8320x4096 ![0, 112, 0] ![0, 0, 0] ![0, 0, 0] (addf h (Host.dotGeneral (F := Ideal) (φ₁ := .f32) (φ₂ := .f32) Cert.EvOutReferenceIdeal.dot_S2x8208x4096_S4096x4096_S2x8208x4096_2_0_01_1_n_n none x w)) (sitofp .f32 (constantI Cert.EvOutReferenceIdeal.S_ 32 0#32)) Cert.EvOutReferenceIdeal.Gen.pads_S2x8208x4096_S2x8320x4096_000_11200_000 Cert.EvOutReferenceIdeal.Gen.h_S_) Cert.EvOutReferenceIdeal.Gen.shapeCasts_S2x8320x4096_S16640x4096

/-- The word 0 read as a number is 0. -/
theorem zero_word : FloatOps.sitofp (F := Ideal) .f32 (0#32) = (0 : EReal) := by
  simp [FloatOps.sitofp]

/-- The padded rows times the matrix plus the padded residual are the padded sum: a padding row's terms are zero. -/
theorem prod_eq_ref (c : Dev nD) : prod (V m c main_v2) (V m c main_v3) (V m c main_v5)
    = ref (m ((c : Thread nD τ).loc main_arg0)) (m ((c : Thread nD τ).loc main_arg1)) (m ((c : Thread nD τ).loc main_arg2)) := by
  rw [V_v2, V_v3, V_v5]
  generalize m ((c : Thread nD τ).loc main_arg0) = x
  generalize m ((c : Thread nD τ).loc main_arg1) = w
  generalize m ((c : Thread nD τ).loc main_arg2) = r
  funext i
  idx_vars i
  pointwise [prod, ref, rows, resRows, weights]
  by_cases h : i0.val / 8320 < 2 ∧ 112 ≤ i0.val % 8320 ∧ i0.val % 8320 - 112 < 8208
  · simp only [dif_pos h]
    exact add_comm _ _
  · simp only [dif_neg h, zero_word, zero_mul, Finset.sum_const_zero, add_zero]

/-- The run of the kernel, its result the reference's padded sum. -/
theorem run : θ_run defs (onTc (τ := τ) (main (F := Ideal))) ⟨m, fun _ => 0, ρ⟩ fun r => ∀ c : Dev nD,
      r.2.mem ((c : Thread nD τ).loc main_v6) = ref (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((final m c).trans (prod_eq_ref m c)), (h c).2⟩) (Value.run_blocks m ρ)

end Cert.EvOutProj

end
-- ==== Proof.GateMix.lean ====
/- The gated state of the recurrent layer: gelu of the gate times the sum of the two directions' states, in padded rows. -/
module

public import proofs.«01_k».proof.Proof.Gen.GateKernelIdeal.Value
public import proofs.«01_k».proof.Proof.Gen.GateReferenceIdeal.Run
public import proofs.«01_k».proof.Proof.Gen.GateReferenceIdeal.Read
public import Idealize.ShloMosaic.Lib.Pointwise
public import Idealize.ShloMosaic.Lib.Pipeline.Value

@[expose] public section

set_option maxRecDepth 16384

noncomputable section

namespace Cert.GateMix

open Cert.GateKernelIdeal Cert.GateKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry: gelu of the gate `z` times the sum of the two states. -/
def entry (z f b : EReal) : EReal :=
  z * (Ideal.ofBits .f32 0x3F000000#32 * (Ideal.ofBits .f32 0x3F800000#32 + Ideal.tanh (Ideal.ofBits .f32 0x3F4C422A#32 * (z + Ideal.ofBits .f32 0x3D372713#32 * (z * (z * z)))))) * (f + b)

/-- The zero of the rows of padding. -/
def zero : EReal := Ideal.ofBits .f32 0x00000000#32

theorem pay2_apply (x0 x1 x2 : Vec Ideal S320x5120 .bf16) (r : Fin 320) (k : Fin 5120) :
    k0_pay2 x0 x1 x2 (ix2 r k) = entry (x0 (ix2 r k)) (x1 (ix2 r k)) (x2 (ix2 r k)) := by
  pointwise [k0_pay2, entry]

theorem pay1_apply (x : FVec Ideal S320x5120 .f32) (b : IVec S320x1 1) (z : EReal) (r : Fin 320) (k : Fin 5120) :
    k0_pay1 (F := Ideal) x b z (ix2 r k) = if b (ix2 r 0) = 1 then x (ix2 r k) else z := by
  pointwise [k0_pay1]
  rfl

/-- The comparison with the number of rows of padding, at every row number there is. -/
theorem ge_pad : ∀ n : Fin 8640, IntOp.cmpi CmpIPredicate.sge (BitVec.ofNat 32 n.val) 112#32 = if 112 ≤ n.val then 1 else 0 := by decide +kernel

/-- The first row of a block within its batch element's frames, as the body computes it. -/
def base (t : Nat) : BitVec 32 :=
  Scalar.select
    (Scalar.andi
      (Scalar.xori
        (Scalar.cmpi CmpIPredicate.slt
          (Scalar.remsi (Scalar.muli (BitVec.ofNat 32 t) 320#32)
            (Scalar.select (Scalar.cmpi CmpIPredicate.eq 8320#32 0#32) 1#32 8320#32))
          0#32)
        (Scalar.cmpi CmpIPredicate.slt (Scalar.select (Scalar.cmpi CmpIPredicate.eq 8320#32 0#32) 1#32 8320#32)
          0#32))
      (Scalar.cmpi CmpIPredicate.ne
        (Scalar.remsi (Scalar.muli (BitVec.ofNat 32 t) 320#32)
          (Scalar.select (Scalar.cmpi CmpIPredicate.eq 8320#32 0#32) 1#32 8320#32))
        0#32))
    (Scalar.addi
      (Scalar.remsi (Scalar.muli (BitVec.ofNat 32 t) 320#32)
        (Scalar.select (Scalar.cmpi CmpIPredicate.eq 8320#32 0#32) 1#32 8320#32))
      (Scalar.select (Scalar.cmpi CmpIPredicate.eq 8320#32 0#32) 1#32 8320#32))
    (Scalar.remsi (Scalar.muli (BitVec.ofNat 32 t) 320#32)
      (Scalar.select (Scalar.cmpi CmpIPredicate.eq 8320#32 0#32) 1#32 8320#32))

theorem base_eq : ∀ t : Fin 52, base t.val = BitVec.ofNat 32 (t.val * 320 % 8320) := by decide +kernel

theorem pay3_apply (i : grid0.Coords) (r : Fin 320) :
    k0_pay3 i (ix2 r 0) = if 112 ≤ (i 0).val * 320 % 8320 + r.val then 1 else 0 := by
  have h : k0_pay3 i (ix2 r 0) = IntOp.cmpi CmpIPredicate.sge (IntOp.addi (base (i 0).val) (BitVec.ofNat 32 r.val)) 112#32 := by
    pointwise [k0_pay3, base]
  have e := base_eq ⟨(i 0).val, (i 0).isLt⟩
  dsimp only at e
  rw [h, e, show IntOp.addi (BitVec.ofNat 32 ((i 0).val * 320 % 8320)) (BitVec.ofNat 32 r.val) = BitVec.ofNat 32 ((i 0).val * 320 % 8320 + r.val) from (BitVec.ofNat_add _ _).symm]
  exact ge_pad ⟨(i 0).val * 320 % 8320 + r.val, by omega⟩

theorem lt_N (t : Fin cfg0.N) : t.val < 52 := t.isLt

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ (grid0.coords t 0).val = t.val :=
  (by decide +kernel : ∀ t : Fin grid0.N, _)

/-- The whole result over the prepared arrays. -/
def whole (A : S16640x10240.Idx → EReal) (B C : S16640x5120.Idx → EReal) : S16640x5120.Idx → EReal :=
  fun i => if 112 ≤ (i 0).val % 8320 then entry (A (ix2 (i 0) ⟨(i 1).val, by have h : (i 1).val < 5120 := (i 1).isLt; omega⟩)) (B (ix2 (i 0) (i 1))) (C (ix2 (i 0) (i 1))) else zero

theorem row_lt (t : Fin cfg0.N) (r : Fin 320) : t.val * 320 + r.val < 16640 := by have := lt_N t; omega

theorem iblk0 (c : Dev nD) (t : Fin cfg0.N) (r : Fin 320) (k : Fin 5120) :
    iblk m c 0 t (ix2 r k) = V m c main_v3 (ix2 ⟨t.val * 320 + r.val, row_lt t r⟩ ⟨k.val, by omega⟩) := by
  obtain ⟨e0, e1, -⟩ := idx_facts t
  show V m c main_v3 (((cfg0.win 0).blk t).view.emb (ix2 r k)) = _
  refine congrArg (V m c main_v3) (funext fun a => Fin.ext ?_)
  match a with
  | ⟨0, _⟩ => show win0_0.index t (0 : Fin 2) * 320 + 1 * r.val = t.val * 320 + r.val; omega
  | ⟨1, _⟩ => show win0_0.index t (1 : Fin 2) * 5120 + 1 * k.val = k.val; omega

theorem iblk1 (c : Dev nD) (t : Fin cfg0.N) (r : Fin 320) (k : Fin 5120) :
    iblk m c 1 t (ix2 r k) = V m c main_v6 (ix2 ⟨t.val * 320 + r.val, row_lt t r⟩ k) := by
  obtain ⟨-, -, e0, e1, -⟩ := idx_facts t
  show V m c main_v6 (((cfg0.win 1).blk t).view.emb (ix2 r k)) = _
  refine congrArg (V m c main_v6) (funext fun a => Fin.ext ?_)
  match a with
  | ⟨0, _⟩ => show win0_1.index t (0 : Fin 2) * 320 + 1 * r.val = t.val * 320 + r.val; omega
  | ⟨1, _⟩ => show win0_1.index t (1 : Fin 2) * 5120 + 1 * k.val = k.val; omega

theorem iblk2 (c : Dev nD) (t : Fin cfg0.N) (r : Fin 320) (k : Fin 5120) :
    iblk m c 2 t (ix2 r k) = V m c main_v9 (ix2 ⟨t.val * 320 + r.val, row_lt t r⟩ k) := by
  obtain ⟨-, -, -, -, e0, e1, -⟩ := idx_facts t
  show V m c main_v9 (((cfg0.win 2).blk t).view.emb (ix2 r k)) = _
  refine congrArg (V m c main_v9) (funext fun a => Fin.ext ?_)
  match a with
  | ⟨0, _⟩ => show win0_2.index t (0 : Fin 2) * 320 + 1 * r.val = t.val * 320 + r.val; omega
  | ⟨1, _⟩ => show win0_2.index t (1 : Fin 2) * 5120 + 1 * k.val = k.val; omega

/-- The body's block: the gated state at the rows of tokens, zero at the rows of padding. -/
theorem out_apply (i : grid0.Coords) (x0 x1 x2 : Vec Ideal S320x5120 .bf16) (r : Fin 320) (k : Fin 5120) :
    out0_3 i x0 x1 x2 (ix2 r k) = if 112 ≤ (i 0).val * 320 % 8320 + r.val then entry (x0 (ix2 r k)) (x1 (ix2 r k)) (x2 (ix2 r k)) else zero := by
  unfold out0_3
  rw [View.canon_unit_zero hz, View.ld_unit_zero hz, View.ld_unit_zero hz, View.ld_unit_zero hz]
  refine (pay1_apply _ _ _ r k).trans ?_
  rw [pay3_apply, pay2_apply]
  by_cases h : 112 ≤ (i 0).val * 320 % 8320 + r.val
  · rw [if_pos h, if_pos h, if_pos rfl]
  · rw [if_neg h, if_neg h, if_neg (by decide)]; rfl

/-- The reference's array. -/
def ref (g : FVec Ideal S2x8208x5120 .f32) (f b : FVec Ideal S2x8208x5120 .f32) : FVec Ideal S16640x5120 .bf16 :=
  Cert.GateReferenceIdeal.Read.val_main_v17 (F := Ideal) g f b

/-- A padded array's entry, at a row of tokens and at a row of padding. -/
def padded (x : Fin 2 → Fin 8208 → EReal) (r : Fin 16640) : EReal :=
  if h : 112 ≤ r.val % 8320 then x ⟨r.val / 8320, by omega⟩ ⟨r.val % 8320 - 112, by omega⟩ else zero

/-- The reference's gated state before it is laid out. -/
theorem gated_apply (g f b : FVec Ideal S2x8208x5120 .f32) (i : Fin 2) (j : Fin 8208) (k : Fin 5120) :
    Cert.GateReferenceIdeal.Read.val_main_v14 (F := Ideal) g f b (ix3 i j k) = entry (g (ix3 i j k)) (f (ix3 i j k)) (b (ix3 i j k)) := by
  pointwise [entry, Cert.GateReferenceIdeal.Read.val_main_v14, Cert.GateReferenceIdeal.Read.val_main_v13, Cert.GateReferenceIdeal.Read.val_main_v12, Cert.GateReferenceIdeal.Read.val_main_v11, Cert.GateReferenceIdeal.Read.val_main_v10, Cert.GateReferenceIdeal.Read.val_main_v9, Cert.GateReferenceIdeal.Read.val_main_v8, Cert.GateReferenceIdeal.Read.val_main_v7, Cert.GateReferenceIdeal.Read.val_main_v6, Cert.GateReferenceIdeal.Read.val_main_v5, Cert.GateReferenceIdeal.Read.val_main_v4, Cert.GateReferenceIdeal.Read.val_main_v3, Cert.GateReferenceIdeal.Read.val_main_v2, Cert.GateReferenceIdeal.Read.val_main_v1, Cert.GateReferenceIdeal.Read.val_main_v0, Cert.GateReferenceIdeal.Read.val_main_cst, Cert.GateReferenceIdeal.Read.val_main_cst_0, Cert.GateReferenceIdeal.Read.val_main_cst_1, Cert.GateReferenceIdeal.Read.val_main_cst_2]
  exact congrArg (fun w => g (ix3 i j k) * (Ideal.ofBits .f32 0x3F000000#32 * (1 + Ideal.tanh (Ideal.ofBits .f32 0x3F4C422A#32 * (g (ix3 i j k) + Ideal.ofBits .f32 0x3D372713#32 * w)))) * (f (ix3 i j k) + b (ix3 i j k))) (mul_comm (g (ix3 i j k) * g (ix3 i j k)) (g (ix3 i j k)))

theorem zero_word : FloatOps.sitofp (F := Ideal) .f32 (0#32) = zero := by
  simp [FloatOps.sitofp, zero]

/-- The reference's array, entry by entry. -/
theorem ref_apply (g f b : FVec Ideal S2x8208x5120 .f32) (r : Fin 16640) (k : Fin 5120) :
    ref g f b (ix2 r k) = padded (fun i j => entry (g (ix3 i j k)) (f (ix3 i j k)) (b (ix3 i j k))) r := by
  unfold ref Cert.GateReferenceIdeal.Read.val_main_v17 Cert.GateReferenceIdeal.Read.val_main_v16 Cert.GateReferenceIdeal.Read.val_main_v15
  have hg := fun i j => gated_apply g f b i j k
  generalize Cert.GateReferenceIdeal.Read.val_main_v14 (F := Ideal) g f b = y at hg ⊢
  pointwise [Cert.GateReferenceIdeal.Read.val_main_c, Cert.GateReferenceIdeal.Read.val_main_call0_v0]
  unfold padded
  by_cases h : 112 ≤ r.val % 8320
  · rw [dif_pos h, dif_pos ⟨by omega, h, by omega⟩]
    exact hg _ _
  · rw [dif_neg h, dif_neg fun e => h e.2.1]
    exact zero_word

theorem flushed_eq (c : Dev nD) (t : Fin cfg0.N) :
    (dats m 0 c).flushed 3 t = ((cfg0.win 3).blk t).view.read (Elt Ideal) (whole (V m c main_v3) (V m c main_v6) (V m c main_v9)) := by
  rw [Value.flushed3]
  funext y
  idx_vars y
  obtain ⟨-, -, -, -, -, -, e0, e1, ec⟩ := idx_facts t
  show out0_3 (grid0.coords t) (iblk m c 0 t) (iblk m c 1 t) (iblk m c 2 t) (ix2 y0 y1) = whole (V m c main_v3) (V m c main_v6) (V m c main_v9) (((cfg0.win 3).blk t).view.emb (ix2 y0 y1))
  have he : ((cfg0.win 3).blk t).view.emb (ix2 y0 y1) = (ix2 ⟨t.val * 320 + y0.val, row_lt t y0⟩ y1 : S16640x5120.Idx) := by
    refine funext fun a => Fin.ext ?_
    match a with
    | ⟨0, _⟩ => show win0_3.index t (0 : Fin 2) * 320 + 1 * y0.val = t.val * 320 + y0.val; omega
    | ⟨1, _⟩ => show win0_3.index t (1 : Fin 2) * 5120 + 1 * y1.val = y1.val; omega
  rw [he, out_apply, iblk0, iblk1, iblk2, ec]
  show _ = if 112 ≤ (t.val * 320 + y0.val) % 8320 then entry _ _ _ else zero
  have hN := lt_N t
  rw [show t.val * 320 % 8320 + y0.val = (t.val * 320 + y0.val) % 8320 by omega]
  rfl

theorem covered (i : S16640x5120.Idx) :
    ∃ t : Fin cfg0.N, (cfg0.win 3).flush t = true ∧ i ∈ ((cfg0.win 3).blk t).view.set := by
  idx_vars i
  refine ⟨(⟨i0.val / 320, by show _ < 52; omega⟩ : Fin cfg0.N), flush0_3 _, ?_⟩
  show _ ∈ ((View.whole main_v10).slice (win0_3.rect _)).set
  rw [View.set_slice_whole, Rect.mem_set_unit]
  obtain ⟨-, -, -, -, -, -, e0, e1, -⟩ := idx_facts (⟨i0.val / 320, by show _ < 52; omega⟩ : Fin cfg0.N)
  intro a
  match a with
  | ⟨0, _⟩ => show win0_3.index _ (0 : Fin 2) * 320 ≤ i0.val ∧ i0.val < win0_3.index _ (0 : Fin 2) * 320 + 320
              rw [e0]; dsimp only; omega
  | ⟨1, _⟩ => show win0_3.index _ (1 : Fin 2) * 5120 ≤ i1.val ∧ i1.val < win0_3.index _ (1 : Fin 2) * 5120 + 5120
              rw [e1]; omega

theorem final (c : Dev nD) : (dats m 0 c).arrAt 3 cfg0.N = whole (V m c main_v3) (V m c main_v6) (V m c main_v9) :=
  (dats m 0 c).arrAt_eq_of_cover 3 _ (fun t _ => flushed_eq m c t) covered

/-- A state laid out in padded rows: 112 zero rows before each batch element's 8208. -/
def rows (x : FVec Ideal S2x8208x5120 .f32) : FVec Ideal S16640x5120 .f32 :=
  shapeCast S16640x5120 (pad S2x8320x5120 ![0, 112, 0] ![0, 0, 0] ![0, 0, 0] x (sitofp .f32 (constantI S_ 32 0#32)) pads_S2x8208x5120_S2x8320x5120_000_11200_000 h_S_) shapeCasts_S2x8320x5120_S16640x5120

theorem rows_tok (x : FVec Ideal S2x8208x5120 .f32) (r : Fin 16640) (k : Fin 5120) (h : 112 ≤ r.val % 8320) :
    rows x (ix2 r k) = x (ix3 ⟨r.val / 8320, by omega⟩ ⟨r.val % 8320 - 112, by omega⟩ k) := by
  pointwise [rows]
  rw [dif_pos (by omega)]

/-- The gate beside the other half of the projection, in padded rows. -/
def rows2 (g u : FVec Ideal S2x8208x5120 .f32) : FVec Ideal S16640x10240 .f32 :=
  shapeCast S16640x10240 (pad S2x8320x10240 ![0, 112, 0] ![0, 0, 0] ![0, 0, 0] (concatenate S2x8208x10240 2 [⟨S2x8208x5120, g⟩, ⟨S2x8208x5120, u⟩] concatenates_S2x8208x5120_S2x8208x5120_S2x8208x10240_d2) (sitofp .f32 (constantI S_ 32 0#32)) pads_S2x8208x10240_S2x8320x10240_000_11200_000 h_S_) shapeCasts_S2x8320x10240_S16640x10240

theorem rows2_tok (g u : FVec Ideal S2x8208x5120 .f32) (r : Fin 16640) (k : Fin 5120) (h : 112 ≤ r.val % 8320) :
    rows2 g u (ix2 r ⟨k.val, by omega⟩) = g (ix3 ⟨r.val / 8320, by omega⟩ ⟨r.val % 8320 - 112, by omega⟩ k) := by
  pointwise [rows2]
  rw [dif_pos (by omega)]

theorem V_v3 (c : Dev nD) : V m c main_v3 = truncf .bf16 (rows2 (m ((c : Thread nD τ).loc main_arg0)) (m ((c : Thread nD τ).loc main_arg1))) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results <;> rfl

theorem V_v6 (c : Dev nD) : V m c main_v6 = truncf .bf16 (rows (m ((c : Thread nD τ).loc main_arg2))) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results <;> rfl

theorem V_v9 (c : Dev nD) : V m c main_v9 = truncf .bf16 (rows (m ((c : Thread nD τ).loc main_arg3))) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results <;> rfl

/-- The kernel's array is the reference's. -/
theorem whole_eq_ref (c : Dev nD) : whole (V m c main_v3) (V m c main_v6) (V m c main_v9)
    = ref (m ((c : Thread nD τ).loc main_arg0)) (m ((c : Thread nD τ).loc main_arg2)) (m ((c : Thread nD τ).loc main_arg3)) := by
  rw [V_v3, V_v6, V_v9]
  generalize m ((c : Thread nD τ).loc main_arg0) = g
  generalize m ((c : Thread nD τ).loc main_arg1) = u
  generalize m ((c : Thread nD τ).loc main_arg2) = f
  generalize m ((c : Thread nD τ).loc main_arg3) = b
  funext i
  idx_vars i
  rw [ref_apply]
  show (if 112 ≤ i0.val % 8320 then entry (rows2 g u (ix2 i0 ⟨i1.val, _⟩)) (rows f (ix2 i0 i1)) (rows b (ix2 i0 i1)) else zero) = padded _ i0
  unfold padded
  by_cases h : 112 ≤ i0.val % 8320
  · rw [if_pos h, dif_pos h, rows2_tok g u i0 i1 h, rows_tok f i0 i1 h, rows_tok b i0 i1 h]
  · rw [if_neg h, dif_neg h]

/-- The run of the kernel, its result the reference's gated state. -/
theorem run : θ_run defs (onTc (τ := τ) (main (F := Ideal))) ⟨m, fun _ => 0, ρ⟩ fun r => ∀ c : Dev nD,
      r.2.mem ((c : Thread nD τ).loc main_v10) = ref (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((final m c).trans (whole_eq_ref m c)), (h c).2⟩) (Value.run_blocks m ρ)

end Cert.GateMix

end
-- ==== Proof.FirstNorm.lean ====
/- The first norm: the kernel lays the tokens and the meta tokens out in padded rows, and beside them leaves the
   root-mean-square norm of every row. -/
module

public import proofs.«01_k».proof.Proof.Gen.FirstKernelIdeal.Value
public import proofs.«01_k».proof.Proof.Gen.FirstReferenceIdeal.Run
public import proofs.«01_k».proof.Proof.Gen.FirstReferenceIdeal.Read
public import Idealize.ShloMosaic.Lib.Pointwise
public import Idealize.ShloMosaic.Lib.Pipeline.Value

@[expose] public section

set_option maxRecDepth 16384

noncomputable section

namespace Cert.FirstNorm

open Cert.FirstKernelIdeal Cert.FirstKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One entry of a normed row: `z k` the row's entries, `g` the gain at the entry `k`. -/
def entry (z : Fin 4096 → EReal) (g : EReal) (k : Fin 4096) : EReal :=
  z k * Ideal.rsqrt (Ideal.div (∑ l : Fin 4096, z l * z l) (Ideal.ofBits .f32 0x45800000#32) + Ideal.ofBits .f32 0x358637BD#32) * g

theorem hz : (![0, 0] : Fin 2 → Nat) = fun _ => 0 := funext fun a => by fin_cases a <;> rfl

theorem lt_N (t : Fin cfg0.N) : t.val < 130 := t.isLt

theorem idx_facts : ∀ t : Fin cfg0.N, win0_0.index t (0 : Fin 2) = t.val / 65 * 8192 + (t.val % 65 - 1) * 128 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ (grid0.coords t 1).val = t.val % 65 :=
  (by decide +kernel : ∀ t : Fin grid0.N, _)

/-- Whether a grid point's block is the first of its batch element, as the body decides it. -/
theorem first_eq : ∀ n : Fin 65, Scalar.cmpi CmpIPredicate.eq (BitVec.ofNat 32 n.val) 0#32 = if n.val = 0 then 1 else 0 := by decide +kernel

/-- An entry of the padded rows: zero before the meta tokens, then the meta tokens, then the tokens. -/
def fr (X : S16384x4096.Idx → EReal) (M : S16x4096.Idx → EReal) (r : Fin 16640) (k : Fin 4096) : EReal :=
  if h : r.val % 8320 < 112 then 0
  else if h' : r.val % 8320 < 128 then M (ix2 ⟨r.val % 8320 - 112, by omega⟩ k)
  else X (ix2 ⟨r.val / 8320 * 8192 + (r.val % 8320 - 128), by omega⟩ k)

/-- An entry of the body's block of those rows. -/
def blk (n : Nat) (x0 : S128x4096.Idx → EReal) (x1 : S16x4096.Idx → EReal) (r : Fin 128) (k : Fin 4096) : EReal :=
  if n = 0 then (if h : r.val < 112 then 0 else x1 (ix2 ⟨r.val - 112, by omega⟩ k)) else x0 (ix2 r k)

def wholeH (X : S16384x4096.Idx → EReal) (M : S16x4096.Idx → EReal) : S16640x4096.Idx → EReal := fun i => fr X M (i 0) (i 1)

def wholeY (X : S16384x4096.Idx → EReal) (M : S16x4096.Idx → EReal) (G : S1x4096.Idx → EReal) : S16640x4096.Idx → EReal :=
  fun i => entry (fr X M (i 0)) (G (ix2 0 (i 1))) (i 1)

theorem row_lt (t : Fin cfg0.N) (r : Fin 128) : t.val * 128 + r.val < 16640 := by have := lt_N t; omega

theorem iblk0 (c : Dev nD) (t : Fin cfg0.N) (r : Fin 128) (k : Fin 4096) (h : t.val % 65 ≠ 0) :
    iblk m c 0 t (ix2 r k) = V m c main_v0 (ix2 ⟨(t.val * 128 + r.val) / 8320 * 8192 + ((t.val * 128 + r.val) % 8320 - 128), by have := lt_N t; omega⟩ k) := by
  obtain ⟨e0, e1, -⟩ := idx_facts t
  show V m c main_v0 (((cfg0.win 0).blk t).view.emb (ix2 r k)) = _
  refine congrArg (V m c main_v0) (funext fun a => Fin.ext ?_)
  have := lt_N t
  match a with
  | ⟨0, _⟩ => show win0_0.index t (0 : Fin 2) + 1 * r.val = (t.val * 128 + r.val) / 8320 * 8192 + ((t.val * 128 + r.val) % 8320 - 128); omega
  | ⟨1, _⟩ => show win0_0.index t (1 : Fin 2) + 1 * k.val = k.val; omega

theorem iblk1 (c : Dev nD) (t : Fin cfg0.N) (r : Fin 16) (k : Fin 4096) :
    iblk m c 1 t (ix2 r k) = V m c main_arg1 (ix2 r k) := by
  obtain ⟨-, -, e0, e1, -⟩ := idx_facts t
  show V m c main_arg1 (((cfg0.win 1).blk t).view.emb (ix2 r k)) = _
  refine congrArg (V m c main_arg1) (funext fun a => Fin.ext ?_)
  match a with
  | ⟨0, _⟩ => show win0_1.index t (0 : Fin 2) * 16 + 1 * r.val = r.val; omega
  | ⟨1, _⟩ => show win0_1.index t (1 : Fin 2) * 4096 + 1 * k.val = k.val; omega

theorem iblk2 (c : Dev nD) (t : Fin cfg0.N) (k : Fin 4096) :
    iblk m c 2 t (ix2 0 k) = V m c main_v1 (ix2 0 k) := by
  obtain ⟨-, -, -, -, e0, e1, -⟩ := idx_facts t
  show V m c main_v1 (((cfg0.win 2).blk t).view.emb (ix2 0 k)) = _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 4096 + 1 * k.val = k.val; omega

/-- The body's block of rows, entry by entry. -/
theorem pay1_apply (i : grid0.Coords) (x0 : Vec Ideal S128x4096 .f32) (x1 : Vec Ideal S16x4096 .f32) (r : Fin 128) (k : Fin 4096) :
    k0_pay1 i x0 x1 (ix2 r k) = blk (i 1).val x0 x1 r k := by
  have e := first_eq ⟨(i 1).val, (i 1).isLt⟩
  dsimp only at e
  unfold k0_pay1
  dsimp only
  rw [e]
  unfold blk
  by_cases h : (i 1).val = 0
  · rw [if_pos h, if_pos h]
    show concatenate S128x4096 0 [⟨S112x4096, broadcast S112x4096 (FloatOps.ofBits (F := Ideal) .f32 0x00000000#32)⟩, ⟨S16x4096, x1⟩] concatenates_S112x4096_S16x4096_S128x4096_d0 (ix2 r k) = _
    pointwise
  · rw [if_neg h, if_neg h]
    show shapeCast S128x4096 x0 _ (ix2 r k) = _
    pointwise

theorem blk_eq (c : Dev nD) (t : Fin cfg0.N) (r : Fin 128) (k : Fin 4096) :
    blk (t.val % 65) (iblk m c 0 t) (iblk m c 1 t) r k = fr (V m c main_v0) (V m c main_arg1) ⟨t.val * 128 + r.val, row_lt t r⟩ k := by
  have hN := lt_N t
  unfold blk fr
  by_cases h : t.val % 65 = 0
  · rw [if_pos h]
    by_cases h1 : r.val < 112
    · rw [dif_pos h1, dif_pos (by show (t.val * 128 + r.val) % 8320 < 112; omega)]
    · rw [dif_neg h1, dif_neg (by show ¬ (t.val * 128 + r.val) % 8320 < 112; omega), dif_pos (by show (t.val * 128 + r.val) % 8320 < 128; omega), iblk1]
      refine congrArg (fun a => V m c main_arg1 (ix2 a k)) (Fin.ext ?_)
      show r.val - 112 = (t.val * 128 + r.val) % 8320 - 112
      omega
  · rw [if_neg h, dif_neg (by show ¬ (t.val * 128 + r.val) % 8320 < 112; omega), dif_neg (by show ¬ (t.val * 128 + r.val) % 8320 < 128; omega)]
    exact iblk0 m c t r k h

theorem out_apply3 (i : grid0.Coords) (x0 : Vec Ideal S128x4096 .f32) (x1 : Vec Ideal S16x4096 .f32) (x2 : Vec Ideal S1x4096 .f32) (r : Fin 128) (k : Fin 4096) :
    out0_3 i x0 x1 x2 (ix2 r k) = blk (i 1).val x0 x1 r k := by
  unfold out0_3
  rw [View.canon_unit_zero hz, View.ld_unit_zero hz, View.ld_unit_zero hz]
  exact pay1_apply i x0 x1 r k

theorem out_apply4 (i : grid0.Coords) (x0 : Vec Ideal S128x4096 .f32) (x1 : Vec Ideal S16x4096 .f32) (x2 : Vec Ideal S1x4096 .f32) (r : Fin 128) (k : Fin 4096) :
    out0_4 i x0 x1 x2 (ix2 r k) = entry (blk (i 1).val x0 x1 r) (x2 (ix2 0 k)) k := by
  unfold out0_4
  rw [View.canon_unit_zero hz, View.ld_unit_zero hz, View.ld_unit_zero hz, View.ld_unit_zero hz]
  have hb := fun l => pay1_apply i x0 x1 r l
  unfold k0_pay2
  generalize k0_pay1 i x0 x1 = z at hb ⊢
  rw [← funext hb]
  pointwise [entry]

theorem flushed_eq3 (c : Dev nD) (t : Fin cfg0.N) :
    (dats m 0 c).flushed 3 t = ((cfg0.win 3).blk t).view.read (Elt Ideal) (wholeH (V m c main_v0) (V m c main_arg1)) := by
  rw [Value.flushed3]
  funext y
  idx_vars y
  obtain ⟨-, -, -, -, -, -, e3, e3', e4, e4', ec⟩ := idx_facts t
  show out0_3 (grid0.coords t) (iblk m c 0 t) (iblk m c 1 t) (iblk m c 2 t) (ix2 y0 y1) = (wholeH (V m c main_v0) (V m c main_arg1)) (((cfg0.win 3).blk t).view.emb (ix2 y0 y1))
  have he : ((cfg0.win 3).blk t).view.emb (ix2 y0 y1) = (ix2 ⟨t.val * 128 + y0.val, row_lt t y0⟩ y1 : S16640x4096.Idx) := by
    refine funext fun a => Fin.ext ?_
    match a with
    | ⟨0, _⟩ => show win0_3.index t (0 : Fin 2) * 128 + 1 * y0.val = t.val * 128 + y0.val; omega
    | ⟨1, _⟩ => show win0_3.index t (1 : Fin 2) * 4096 + 1 * y1.val = y1.val; omega
  rw [he, out_apply3]
  rw [ec]
  exact blk_eq m c t y0 y1

theorem covered3 (i : S16640x4096.Idx) :
    ∃ t : Fin cfg0.N, (cfg0.win 3).flush t = true ∧ i ∈ ((cfg0.win 3).blk t).view.set := by
  idx_vars i
  refine ⟨(⟨i0.val / 128, by show _ < 130; omega⟩ : Fin cfg0.N), flush0_3 _, ?_⟩
  show _ ∈ ((View.whole main_v2_0).slice (win0_3.rect _)).set
  rw [View.set_slice_whole, Rect.mem_set_unit]
  obtain ⟨-, -, -, -, -, -, e3, e3', e4, e4', -⟩ := idx_facts (⟨i0.val / 128, by show _ < 130; omega⟩ : Fin cfg0.N)
  intro a
  match a with
  | ⟨0, _⟩ => show win0_3.index _ (0 : Fin 2) * 128 ≤ i0.val ∧ i0.val < win0_3.index _ (0 : Fin 2) * 128 + 128
              rw [e3]; dsimp only; omega
  | ⟨1, _⟩ => show win0_3.index _ (1 : Fin 2) * 4096 ≤ i1.val ∧ i1.val < win0_3.index _ (1 : Fin 2) * 4096 + 4096
              rw [e3']; omega

theorem final3 (c : Dev nD) : (dats m 0 c).arrAt 3 cfg0.N = wholeH (V m c main_v0) (V m c main_arg1) :=
  (dats m 0 c).arrAt_eq_of_cover 3 _ (fun t _ => flushed_eq3 m c t) covered3

theorem flushed_eq4 (c : Dev nD) (t : Fin cfg0.N) :
    (dats m 0 c).flushed 4 t = ((cfg0.win 4).blk t).view.read (Elt Ideal) (wholeY (V m c main_v0) (V m c main_arg1) (V m c main_v1)) := by
  rw [Value.flushed4]
  funext y
  idx_vars y
  obtain ⟨-, -, -, -, -, -, e3, e3', e4, e4', ec⟩ := idx_facts t
  show out0_4 (grid0.coords t) (iblk m c 0 t) (iblk m c 1 t) (iblk m c 2 t) (ix2 y0 y1) = (wholeY (V m c main_v0) (V m c main_arg1) (V m c main_v1)) (((cfg0.win 4).blk t).view.emb (ix2 y0 y1))
  have he : ((cfg0.win 4).blk t).view.emb (ix2 y0 y1) = (ix2 ⟨t.val * 128 + y0.val, row_lt t y0⟩ y1 : S16640x4096.Idx) := by
    refine funext fun a => Fin.ext ?_
    match a with
    | ⟨0, _⟩ => show win0_4.index t (0 : Fin 2) * 128 + 1 * y0.val = t.val * 128 + y0.val; omega
    | ⟨1, _⟩ => show win0_4.index t (1 : Fin 2) * 4096 + 1 * y1.val = y1.val; omega
  rw [he, out_apply4]
  rw [ec, iblk2]
  show entry _ _ _ = entry _ _ _
  exact congrArg (fun z => entry z (V m c main_v1 (ix2 0 y1)) y1) (funext fun l => blk_eq m c t y0 l)

theorem covered4 (i : S16640x4096.Idx) :
    ∃ t : Fin cfg0.N, (cfg0.win 4).flush t = true ∧ i ∈ ((cfg0.win 4).blk t).view.set := by
  idx_vars i
  refine ⟨(⟨i0.val / 128, by show _ < 130; omega⟩ : Fin cfg0.N), flush0_4 _, ?_⟩
  show _ ∈ ((View.whole main_v2_1).slice (win0_4.rect _)).set
  rw [View.set_slice_whole, Rect.mem_set_unit]
  obtain ⟨-, -, -, -, -, -, e3, e3', e4, e4', -⟩ := idx_facts (⟨i0.val / 128, by show _ < 130; omega⟩ : Fin cfg0.N)
  intro a
  match a with
  | ⟨0, _⟩ => show win0_4.index _ (0 : Fin 2) * 128 ≤ i0.val ∧ i0.val < win0_4.index _ (0 : Fin 2) * 128 + 128
              rw [e4]; dsimp only; omega
  | ⟨1, _⟩ => show win0_4.index _ (1 : Fin 2) * 4096 ≤ i1.val ∧ i1.val < win0_4.index _ (1 : Fin 2) * 4096 + 4096
              rw [e4']; omega

theorem final4 (c : Dev nD) : (dats m 0 c).arrAt 4 cfg0.N = wholeY (V m c main_v0) (V m c main_arg1) (V m c main_v1) :=
  (dats m 0 c).arrAt_eq_of_cover 4 _ (fun t _ => flushed_eq4 m c t) covered4

/-- The reference's rows. -/
def refH (x : FVec Ideal S2x8192x4096 .f32) (w : FVec Ideal S16x4096 .f32) : FVec Ideal S16640x4096 .f32 :=
  Cert.FirstReferenceIdeal.Read.val_main_v17 (F := Ideal) x w

/-- The reference's normed rows. -/
def refY (x : FVec Ideal S2x8192x4096 .f32) (w : FVec Ideal S16x4096 .f32) (g : FVec Ideal S4096 .f32) : FVec Ideal S16640x4096 .bf16 :=
  Cert.FirstReferenceIdeal.Read.val_main_v20 (F := Ideal) x w g

/-- The tokens as rows. -/
def toks (x : FVec Ideal S2x8192x4096 .f32) : FVec Ideal S16384x4096 .f32 := shapeCast S16384x4096 x shapeCasts_S2x8192x4096_S16384x4096

/-- The gain as the one row that the kernel reads. -/
def gain (g : FVec Ideal S4096 .f32) : FVec Ideal S1x4096 .f32 := shapeCast S1x4096 g shapeCasts_S4096_S1x4096

/-- The sequence with its meta tokens, entry by entry. -/
def seq (x : FVec Ideal S2x8192x4096 .f32) (w : FVec Ideal S16x4096 .f32) (i : Fin 2) (j : Fin 8208) (k : Fin 4096) : EReal :=
  if h : j.val < 16 then w (ix2 ⟨j.val, h⟩ k) else x (ix3 i ⟨j.val - 16, by omega⟩ k)

theorem seq_apply (x : FVec Ideal S2x8192x4096 .f32) (w : FVec Ideal S16x4096 .f32) (i : Fin 2) (j : Fin 8208) (k : Fin 4096) :
    Cert.FirstReferenceIdeal.Read.val_main_v2 (F := Ideal) x w (ix3 i j k) = seq x w i j k := by
  pointwise [seq, Cert.FirstReferenceIdeal.Read.val_main_v2, Cert.FirstReferenceIdeal.Read.val_main_v1, Cert.FirstReferenceIdeal.Read.val_main_v0]

theorem normed_apply (x : FVec Ideal S2x8192x4096 .f32) (w : FVec Ideal S16x4096 .f32) (g : FVec Ideal S4096 .f32) (i : Fin 2) (j : Fin 8208) (k : Fin 4096) :
    Cert.FirstReferenceIdeal.Read.val_main_v15 (F := Ideal) x w g (ix3 i j k) = entry (seq x w i j) (g (ix1 k)) k := by
  have hs := fun l => seq_apply x w i j l
  unfold Cert.FirstReferenceIdeal.Read.val_main_v15 Cert.FirstReferenceIdeal.Read.val_main_v12 Cert.FirstReferenceIdeal.Read.val_main_v11 Cert.FirstReferenceIdeal.Read.val_main_v10 Cert.FirstReferenceIdeal.Read.val_main_v9 Cert.FirstReferenceIdeal.Read.val_main_v7 Cert.FirstReferenceIdeal.Read.val_main_v5 Cert.FirstReferenceIdeal.Read.val_main_v4 Cert.FirstReferenceIdeal.Read.val_main_v3
  generalize Cert.FirstReferenceIdeal.Read.val_main_v2 (F := Ideal) x w = y at hs ⊢
  rw [← funext hs]
  pointwise [entry, Cert.FirstReferenceIdeal.Read.val_main_v14, Cert.FirstReferenceIdeal.Read.val_main_v13, Cert.FirstReferenceIdeal.Read.val_main_v8, Cert.FirstReferenceIdeal.Read.val_main_v6, Cert.FirstReferenceIdeal.Read.val_main_cst, Cert.FirstReferenceIdeal.Read.val_main_cst_0, Cert.FirstReferenceIdeal.Read.val_main_cst_1]

theorem zero_word : FloatOps.sitofp (F := Ideal) .f32 (0#32) = (0 : EReal) := by
  simp [FloatOps.sitofp]

/-- An array in padded rows: zero, or the sequence's entry. -/
def padded (y : Fin 2 → Fin 8208 → EReal) (r : Fin 16640) : EReal :=
  if h : r.val % 8320 < 112 then 0 else y ⟨r.val / 8320, by omega⟩ ⟨r.val % 8320 - 112, by omega⟩

theorem refH_apply (x : FVec Ideal S2x8192x4096 .f32) (w : FVec Ideal S16x4096 .f32) (r : Fin 16640) (k : Fin 4096) :
    refH x w (ix2 r k) = padded (fun i j => seq x w i j k) r := by
  unfold refH Cert.FirstReferenceIdeal.Read.val_main_v17 Cert.FirstReferenceIdeal.Read.val_main_v16
  have hs := fun i j => seq_apply x w i j k
  generalize Cert.FirstReferenceIdeal.Read.val_main_v2 (F := Ideal) x w = y at hs ⊢
  pointwise [Cert.FirstReferenceIdeal.Read.val_main_c, Cert.FirstReferenceIdeal.Read.val_main_call0_v0]
  unfold padded
  by_cases h : r.val % 8320 < 112
  · rw [dif_pos h, dif_neg (by omega)]
    exact zero_word
  · rw [dif_neg h, dif_pos (by omega)]
    exact hs _ _

theorem refY_apply (x : FVec Ideal S2x8192x4096 .f32) (w : FVec Ideal S16x4096 .f32) (g : FVec Ideal S4096 .f32) (r : Fin 16640) (k : Fin 4096) :
    refY x w g (ix2 r k) = padded (fun i j => entry (seq x w i j) (g (ix1 k)) k) r := by
  unfold refY Cert.FirstReferenceIdeal.Read.val_main_v20 Cert.FirstReferenceIdeal.Read.val_main_v19 Cert.FirstReferenceIdeal.Read.val_main_v18
  have hs := fun i j => normed_apply x w g i j k
  generalize Cert.FirstReferenceIdeal.Read.val_main_v15 (F := Ideal) x w g = y at hs ⊢
  pointwise [Cert.FirstReferenceIdeal.Read.val_main_c_2, Cert.FirstReferenceIdeal.Read.val_main_call1_v0]
  unfold padded
  by_cases h : r.val % 8320 < 112
  · rw [dif_pos h, dif_neg (by omega)]
    exact zero_word
  · rw [dif_neg h, dif_pos (by omega)]
    exact hs _ _

/-- A row of tokens is the sequence's row, and a row of padding is zero. -/
theorem fr_eq (x : FVec Ideal S2x8192x4096 .f32) (w : FVec Ideal S16x4096 .f32) (r : Fin 16640) (k : Fin 4096) :
    fr (toks x) w r k = padded (fun i j => seq x w i j k) r := by
  unfold fr padded seq
  dsimp only
  by_cases h : r.val % 8320 < 112
  · rw [dif_pos h, dif_pos h]
  · rw [dif_neg h, dif_neg h]
    by_cases h1 : r.val % 8320 < 128
    · rw [dif_pos h1, dif_pos (by show r.val % 8320 - 112 < 16; omega)]
    · rw [dif_neg h1, dif_neg (by show ¬ r.val % 8320 - 112 < 16; omega)]
      pointwise [toks]
      refine congrArg x (funext fun a => Fin.ext ?_)
      match a with
      | ⟨0, _⟩ => show (r.val / 8320 * 8192 + (r.val % 8320 - 128)) / 8192 = r.val / 8320; omega
      | ⟨1, _⟩ => show (r.val / 8320 * 8192 + (r.val % 8320 - 128)) % 8192 = r.val % 8320 - 112 - 16; omega
      | ⟨2, _⟩ => rfl

/-- The norm of a row of padding is zero. -/
theorem entry_fr (x : FVec Ideal S2x8192x4096 .f32) (w : FVec Ideal S16x4096 .f32) (g : EReal) (r : Fin 16640) (k : Fin 4096) :
    entry (fr (toks x) w r) g k = padded (fun i j => entry (seq x w i j) g k) r := by
  rw [show fr (toks x) w r = fun l => padded (fun i j => seq x w i j l) r from funext fun l => fr_eq x w r l]
  unfold padded
  by_cases h : r.val % 8320 < 112
  · rw [dif_pos h]
    unfold entry
    dsimp only
    rw [dif_pos h, zero_mul, zero_mul]
  · simp only [dif_neg h]

theorem V_v0 (c : Dev nD) : V m c main_v0 = toks (m ((c : Thread nD τ).loc main_arg0)) := by
  unfold V
  simp only [hostOps0]
  after_results <;> rfl

theorem V_arg1 (c : Dev nD) : V m c main_arg1 = m ((c : Thread nD τ).loc main_arg1) := by
  unfold V
  simp only [hostOps0]
  after_results <;> rfl

theorem V_v1 (c : Dev nD) : V m c main_v1 = gain (m ((c : Thread nD τ).loc main_arg2)) := by
  unfold V
  simp only [hostOps0]
  after_results <;> rfl

theorem wholeH_eq_ref (c : Dev nD) : wholeH (V m c main_v0) (V m c main_arg1)
    = refH (m ((c : Thread nD τ).loc main_arg0)) (m ((c : Thread nD τ).loc main_arg1)) := by
  rw [V_v0, V_arg1]
  generalize m ((c : Thread nD τ).loc main_arg0) = x
  generalize m ((c : Thread nD τ).loc main_arg1) = w
  funext i
  idx_vars i
  rw [refH_apply]
  exact fr_eq x w i0 i1

theorem wholeY_eq_ref (c : Dev nD) : wholeY (V m c main_v0) (V m c main_arg1) (V m c main_v1)
    = refY (m ((c : Thread nD τ).loc main_arg0)) (m ((c : Thread nD τ).loc main_arg1)) (m ((c : Thread nD τ).loc main_arg2)) := by
  rw [V_v0, V_arg1, V_v1]
  generalize m ((c : Thread nD τ).loc main_arg0) = x
  generalize m ((c : Thread nD τ).loc main_arg1) = w
  generalize m ((c : Thread nD τ).loc main_arg2) = g
  funext i
  idx_vars i
  rw [refY_apply]
  have hg : gain g (ix2 0 i1) = g (ix1 i1) := by pointwise [gain]
  rw [← hg]
  exact entry_fr x w _ i0 i1

/-- The run of the kernel, its results the reference's rows and normed rows. -/
theorem run : θ_run defs (onTc (τ := τ) (main (F := Ideal))) ⟨m, fun _ => 0, ρ⟩ fun r => ∀ c : Dev nD,
      r.2.mem ((c : Thread nD τ).loc main_v2_0) = refH (m ((c : Thread nD τ).loc main_arg0)) (m ((c : Thread nD τ).loc main_arg1))
      ∧ r.2.mem ((c : Thread nD τ).loc main_v2_1) = refY (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((final3 m c).trans (wholeH_eq_ref m c)), (h c).2.1.trans ((final4 m c).trans (wholeY_eq_ref m c)), (h c).2.2⟩) (Value.run_blocks m ρ)

end Cert.FirstNorm

end
-- ==== Proof.lean ====
/- The claims, each from the modules that prove it: every program's frame, and for each call the equality of its result
   with its reference's at exact arithmetic. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.FinalKernel
public import proofs.«01_k».proof.Proof.Gen.FinalKernel.Skeleton
public import proofs.«01_k».proof.Proof.Gen.FinalKernel.Launch
public import proofs.«01_k».proof.Proof.Gen.FinalKernel.Points
public import proofs.«01_k».proof.Proof.Gen.FinalKernel.Frame
public import proofs.«01_k».proof.Proof.Gen.FinalKernelIdeal
public import proofs.«01_k».proof.Proof.Gen.FinalKernelIdeal.Skeleton
public import proofs.«01_k».proof.Proof.Gen.FinalKernelIdeal.Launch
public import proofs.«01_k».proof.Proof.Gen.FinalKernelIdeal.Points
public import proofs.«01_k».proof.Proof.Gen.FinalKernelIdeal.Frame
public import proofs.«01_k».proof.Proof.Gen.FinalReferenceIdeal
public import proofs.«01_k».proof.Proof.Gen.EvInKernel
public import proofs.«01_k».proof.Proof.Gen.EvInKernel.Skeleton
public import proofs.«01_k».proof.Proof.Gen.EvInKernel.Launch
public import proofs.«01_k».proof.Proof.Gen.EvInKernel.Points
public import proofs.«01_k».proof.Proof.Gen.EvInKernel.Frame
public import proofs.«01_k».proof.Proof.Gen.EvInKernelIdeal
public import proofs.«01_k».proof.Proof.Gen.EvInKernelIdeal.Skeleton
public import proofs.«01_k».proof.Proof.Gen.EvInKernelIdeal.Launch
public import proofs.«01_k».proof.Proof.Gen.EvInKernelIdeal.Points
public import proofs.«01_k».proof.Proof.Gen.EvInKernelIdeal.Frame
public import proofs.«01_k».proof.Proof.Gen.EvInReferenceIdeal
public import proofs.«01_k».proof.Proof.Gen.EvSmKernel
public import proofs.«01_k».proof.Proof.Gen.EvSmKernel.Skeleton
public import proofs.«01_k».proof.Proof.Gen.EvSmKernel.Launch
public import proofs.«01_k».proof.Proof.Gen.EvSmKernel.Points
public import proofs.«01_k».proof.Proof.Gen.EvSmKernel.Frame
public import proofs.«01_k».proof.Proof.Gen.EvSmKernelIdeal
public import proofs.«01_k».proof.Proof.Gen.EvSmKernelIdeal.Skeleton
public import proofs.«01_k».proof.Proof.Gen.EvSmKernelIdeal.Launch
public import proofs.«01_k».proof.Proof.Gen.EvSmKernelIdeal.Points
public import proofs.«01_k».proof.Proof.Gen.EvSmKernelIdeal.Frame
public import proofs.«01_k».proof.Proof.Gen.EvSmReferenceIdeal
public import proofs.«01_k».proof.Proof.Gen.EvOutKernel
public import proofs.«01_k».proof.Proof.Gen.EvOutKernel.Skeleton
public import proofs.«01_k».proof.Proof.Gen.EvOutKernel.Launch
public import proofs.«01_k».proof.Proof.Gen.EvOutKernel.Points
public import proofs.«01_k».proof.Proof.Gen.EvOutKernel.Frame
public import proofs.«01_k».proof.Proof.Gen.EvOutKernelIdeal
public import proofs.«01_k».proof.Proof.Gen.EvOutKernelIdeal.Skeleton
public import proofs.«01_k».proof.Proof.Gen.EvOutKernelIdeal.Launch
public import proofs.«01_k».proof.Proof.Gen.EvOutKernelIdeal.Points
public import proofs.«01_k».proof.Proof.Gen.EvOutKernelIdeal.Frame
public import proofs.«01_k».proof.Proof.Gen.EvOutReferenceIdeal
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.FirstKernel
public import proofs.«01_k».proof.Proof.Gen.FirstKernel.Skeleton
public import proofs.«01_k».proof.Proof.Gen.FirstKernel.Launch
public import proofs.«01_k».proof.Proof.Gen.FirstKernel.Points
public import proofs.«01_k».proof.Proof.Gen.FirstKernel.Frame
public import proofs.«01_k».proof.Proof.Gen.FirstKernelIdeal
public import proofs.«01_k».proof.Proof.Gen.FirstKernelIdeal.Skeleton
public import proofs.«01_k».proof.Proof.Gen.FirstKernelIdeal.Launch
public import proofs.«01_k».proof.Proof.Gen.FirstKernelIdeal.Points
public import proofs.«01_k».proof.Proof.Gen.FirstKernelIdeal.Frame
public import proofs.«01_k».proof.Proof.Gen.FirstReferenceIdeal
public import proofs.«01_k».proof.Proof.Gen.Pre_group_range
public import proofs.«01_k».proof.Proof.Gen.Pre_routed
public import Idealize.ShloMosaic.Adequacy
public import Idealize.ShloMosaic.Init
public import proofs.«01_k».proof.Proof.OkKernel
public import proofs.«01_k».proof.Proof.OkKernelIdeal
public import proofs.«01_k».proof.Proof.ExpertsVal
public import proofs.«01_k».proof.Proof.ExpertsRef
public import proofs.«01_k».proof.Proof.Pres
public import proofs.«01_k».proof.Proof.Gen.ReferenceIdeal.Run
public import proofs.«01_k».proof.Proof.Gen.ReferenceIdeal.Read
public import proofs.«01_k».proof.Proof.InProj
public import proofs.«01_k».proof.Proof.Gen.InReferenceIdeal.Run
public import proofs.«01_k».proof.Proof.OutProj
public import proofs.«01_k».proof.Proof.Gen.OutReferenceIdeal.Run
public import proofs.«01_k».proof.Proof.FinalNorm
public import proofs.«01_k».proof.Proof.Gen.FinalReferenceIdeal.Run
public import proofs.«01_k».proof.Proof.EvInProj
public import proofs.«01_k».proof.Proof.Gen.EvInReferenceIdeal.Run
public import proofs.«01_k».proof.Proof.EvSmProj
public import proofs.«01_k».proof.Proof.Gen.EvSmReferenceIdeal.Run
public import proofs.«01_k».proof.Proof.EvOutProj
public import proofs.«01_k».proof.Proof.Gen.EvOutReferenceIdeal.Run
public import proofs.«01_k».proof.Proof.GateMix
public import proofs.«01_k».proof.Proof.Gen.GateReferenceIdeal.Run
public import proofs.«01_k».proof.Proof.FirstNorm
public import proofs.«01_k».proof.Proof.Gen.FirstReferenceIdeal.Run
public import Idealize.ShloMosaic.Lib.Quiescent

@[expose] public section

set_option maxRecDepth 16384

noncomputable section

namespace Cert.Proof

open Idealize.ShloMosaic Idealize.SL.Sem

/-! ## The routed experts -/

section Experts
open Cert.KernelIdeal

theorem ok_kernel (m : (ℓ : Loc Cert.Kernel.nD Cert.Kernel.τ Cert.Kernel.sig) → Buf (Elt Bits) ℓ) (h : Cert.Pre_Kernel m) : Cert.Kernel.Gen.Ok (F := Bits) m :=
  Cert.OkKernel.ok_of_range m fun g => Cert.Pres.range_lt (h 0) (Cert.OkKernel.place g)

theorem ok_ideal (m : (ℓ : Loc nD τ sig) → Buf (Elt Ideal) ℓ) (h : Cert.Pre_KernelIdeal m) : Cert.KernelIdeal.Gen.Ok (F := Ideal) m :=
  Cert.OkKernelIdeal.ok_of_range m fun g => Cert.Pres.range_lt (h 0) (Cert.OkKernelIdeal.place g)

/-- Under `routed` the table's words are in range. -/
theorem in_range (m : (ℓ : Loc nD τ sig) → Buf (Elt Ideal) ℓ) (h : Cert.Pre_KernelIdeal_routed m) : Cert.Experts.InRange m :=
  fun g => Cert.Pres.routed_lt (h 0) g

theorem ok_routed (m : (ℓ : Loc nD τ sig) → Buf (Elt Ideal) ℓ) (h : Cert.Pre_KernelIdeal_routed m) : Cert.KernelIdeal.Gen.Ok (F := Ideal) m :=
  Cert.OkKernelIdeal.ok_of_range m (in_range m h)

/-- Under `routed` the kernel's sum over one group is the reference's sum over all of them. -/
theorem out_eq (m : (ℓ : Loc nD τ sig) → Buf (Elt Ideal) ℓ) (h : Cert.Pre_KernelIdeal_routed m) (c : Dev nD) :
    Cert.Experts.out m (in_range m h) c
      = Cert.ReferenceIdeal.Read.val_main_v69 (F := Ideal) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  obtain rfl : c = 0 := Subsingleton.elim _ _
  funext i
  idx_vars i
  refine (Cert.Experts.out_apply m (in_range m h) 0 i0 i1).trans ?_
  exact (Cert.ExpertsRef.value_of_routed _ _ _ _ _ (Cert.Experts.grp m (in_range m h) ⟨i0.val / 512, by omega⟩) i0 i1
    fun g hg e => Cert.Pres.routed_zero (h 0) i0 g (fun hv => hg (Fin.ext hv)) e).symm

theorem experts_frame : Cert.quiescent_Kernel := fun m g h => Cert.Kernel.Gen.frame m g (ok_kernel m h)

theorem experts_frame_ideal : Cert.quiescent_KernelIdeal := fun m g h => Cert.KernelIdeal.Gen.frame m g (ok_ideal m h)

theorem experts_frame_routed : Cert.quiescent_KernelIdeal_pre_routed := fun m g h => Cert.KernelIdeal.Gen.frame m g (ok_routed m h)

theorem experts_ref_frame : Cert.quiescent_ReferenceIdeal := fun m g _ =>
  (θ_run Cert.ReferenceIdeal.defs _ _).mono (fun r H => ⟨fun c => (H c).2, sem_eq_zero_of_no_sems (by decide) r.2⟩) (Cert.ReferenceIdeal.Value.run (F := Ideal) m g)

theorem experts_ref_frame_routed : Cert.quiescent_ReferenceIdeal_pre_routed := fun m g _ => experts_ref_frame m g trivial

theorem experts_value : Cert.algebraic_KernelIdeal_ReferenceIdeal_pre_routed := fun m g m' g' h ha =>
  ⟨fun c => Cert.Experts.out m (in_range m h) c, Cert.Experts.run m g (ok_routed m h) (in_range m h),
    (θ_run Cert.ReferenceIdeal.defs _ _).mono (fun r H c => ⟨(H c).1.trans ((Cert.ReferenceIdeal.Read.val_main_v69_eq m' c).trans (by
      refine Eq.trans ?_ (out_eq m h c).symm
      obtain ⟨-, h1, h2, h3, h4, h5⟩ := ha c
      exact (congr (congr (congr (congr (congrArg Cert.ReferenceIdeal.Read.val_main_v69 h1) h2) h3) h4) h5))), (H c).2⟩)
      (Cert.ReferenceIdeal.Value.run (F := Ideal) m' g')⟩

end Experts

/-! ## In -/

theorem in_frame : Cert.quiescent_InKernel := fun m g _ => Cert.InKernel.Gen.frame m g

theorem in_frame_ideal : Cert.quiescent_InKernelIdeal := fun m g _ => Cert.InKernelIdeal.Gen.frame m g

theorem in_ref_frame : Cert.quiescent_InReferenceIdeal := fun m g _ =>
  (θ_run Cert.InReferenceIdeal.defs _ _).mono (fun r H => ⟨fun c => (H c).2, sem_eq_zero_of_no_sems (by decide) r.2⟩) (Cert.InReferenceIdeal.Value.run (F := Ideal) m g)

theorem in_value : Cert.algebraic_InKernelIdeal_InReferenceIdeal := fun m g m' g' _ ha =>
  ⟨fun c => Cert.InProj.ref (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)), Cert.InProj.run m g,
    (θ_run Cert.InReferenceIdeal.defs _ _).mono (fun r H c => ⟨(H c).1.trans ((show _ = Cert.InProj.ref (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) from rfl).trans (by
      obtain ⟨h0, h1⟩ := ha c
      exact congr (congrArg Cert.InProj.ref h0) h1)), (H c).2⟩) (Cert.InReferenceIdeal.Value.run (F := Ideal) m' g')⟩

/-! ## Out -/

theorem out_frame : Cert.quiescent_OutKernel := fun m g _ => Cert.OutKernel.Gen.frame m g

theorem out_frame_ideal : Cert.quiescent_OutKernelIdeal := fun m g _ => Cert.OutKernelIdeal.Gen.frame m g

theorem out_ref_frame : Cert.quiescent_OutReferenceIdeal := fun m g _ =>
  (θ_run Cert.OutReferenceIdeal.defs _ _).mono (fun r H => ⟨fun c => (H c).2, sem_eq_zero_of_no_sems (by decide) r.2⟩) (Cert.OutReferenceIdeal.Value.run (F := Ideal) m g)

theorem out_value : Cert.algebraic_OutKernelIdeal_OutReferenceIdeal := fun m g m' g' _ ha =>
  ⟨fun c => Cert.OutProj.ref (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)), Cert.OutProj.run m g,
    (θ_run Cert.OutReferenceIdeal.defs _ _).mono (fun r H c => ⟨(H c).1.trans ((show _ = Cert.OutProj.ref (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2)) from rfl).trans (by
      obtain ⟨h0, h1, h2⟩ := ha c
      exact congr (congr (congrArg Cert.OutProj.ref h0) h1) h2)), (H c).2⟩) (Cert.OutReferenceIdeal.Value.run (F := Ideal) m' g')⟩

/-! ## Final -/

theorem final_frame : Cert.quiescent_FinalKernel := fun m g _ => Cert.FinalKernel.Gen.frame m g

theorem final_frame_ideal : Cert.quiescent_FinalKernelIdeal := fun m g _ => Cert.FinalKernelIdeal.Gen.frame m g

theorem final_ref_frame : Cert.quiescent_FinalReferenceIdeal := fun m g _ =>
  (θ_run Cert.FinalReferenceIdeal.defs _ _).mono (fun r H => ⟨fun c => (H c).2, sem_eq_zero_of_no_sems (by decide) r.2⟩) (Cert.FinalReferenceIdeal.Value.run (F := Ideal) m g)

theorem final_value : Cert.algebraic_FinalKernelIdeal_FinalReferenceIdeal := fun m g m' g' _ ha =>
  ⟨fun c => Cert.FinalNorm.ref (m ((c.tc : Thread Cert.FinalKernelIdeal.nD Cert.FinalKernelIdeal.τ).loc Cert.FinalKernelIdeal.main_arg0)) (m ((c.tc : Thread Cert.FinalKernelIdeal.nD Cert.FinalKernelIdeal.τ).loc Cert.FinalKernelIdeal.main_arg1)) (m ((c.tc : Thread Cert.FinalKernelIdeal.nD Cert.FinalKernelIdeal.τ).loc Cert.FinalKernelIdeal.main_arg2)), Cert.FinalNorm.run m g,
    (θ_run Cert.FinalReferenceIdeal.defs _ _).mono (fun r H c => ⟨(H c).1.trans ((show _ = Cert.FinalNorm.ref (m' ((c.tc : Thread Cert.FinalReferenceIdeal.nD Cert.FinalReferenceIdeal.τ).loc Cert.FinalReferenceIdeal.main_arg0)) (m' ((c.tc : Thread Cert.FinalReferenceIdeal.nD Cert.FinalReferenceIdeal.τ).loc Cert.FinalReferenceIdeal.main_arg1)) (m' ((c.tc : Thread Cert.FinalReferenceIdeal.nD Cert.FinalReferenceIdeal.τ).loc Cert.FinalReferenceIdeal.main_arg2)) from rfl).trans (by
      obtain ⟨h0, h1, h2⟩ := ha c
      exact congr (congr (congrArg Cert.FinalNorm.ref h0) h1) h2)), (H c).2⟩) (Cert.FinalReferenceIdeal.Value.run (F := Ideal) m' g')⟩

/-! ## EvIn -/

theorem evIn_frame : Cert.quiescent_EvInKernel := fun m g _ => Cert.EvInKernel.Gen.frame m g

theorem evIn_frame_ideal : Cert.quiescent_EvInKernelIdeal := fun m g _ => Cert.EvInKernelIdeal.Gen.frame m g

theorem evIn_ref_frame : Cert.quiescent_EvInReferenceIdeal := fun m g _ =>
  (θ_run Cert.EvInReferenceIdeal.defs _ _).mono (fun r H => ⟨fun c => (H c).2, sem_eq_zero_of_no_sems (by decide) r.2⟩) (Cert.EvInReferenceIdeal.Value.run (F := Ideal) m g)

theorem evIn_value : Cert.algebraic_EvInKernelIdeal_EvInReferenceIdeal := fun m g m' g' _ ha =>
  ⟨fun c => Cert.EvInProj.ref (m ((c.tc : Thread Cert.EvInKernelIdeal.nD Cert.EvInKernelIdeal.τ).loc Cert.EvInKernelIdeal.main_arg0)) (m ((c.tc : Thread Cert.EvInKernelIdeal.nD Cert.EvInKernelIdeal.τ).loc Cert.EvInKernelIdeal.main_arg1)), Cert.EvInProj.run m g,
    (θ_run Cert.EvInReferenceIdeal.defs _ _).mono (fun r H c => ⟨(H c).1.trans ((show _ = Cert.EvInProj.ref (m' ((c.tc : Thread Cert.EvInReferenceIdeal.nD Cert.EvInReferenceIdeal.τ).loc Cert.EvInReferenceIdeal.main_arg0)) (m' ((c.tc : Thread Cert.EvInReferenceIdeal.nD Cert.EvInReferenceIdeal.τ).loc Cert.EvInReferenceIdeal.main_arg1)) from rfl).trans (by
      obtain ⟨h0, h1⟩ := ha c
      exact congr (congrArg Cert.EvInProj.ref h0) h1)), (H c).2⟩) (Cert.EvInReferenceIdeal.Value.run (F := Ideal) m' g')⟩

/-! ## EvSm -/

theorem evSm_frame : Cert.quiescent_EvSmKernel := fun m g _ => Cert.EvSmKernel.Gen.frame m g

theorem evSm_frame_ideal : Cert.quiescent_EvSmKernelIdeal := fun m g _ => Cert.EvSmKernelIdeal.Gen.frame m g

theorem evSm_ref_frame : Cert.quiescent_EvSmReferenceIdeal := fun m g _ =>
  (θ_run Cert.EvSmReferenceIdeal.defs _ _).mono (fun r H => ⟨fun c => (H c).2, sem_eq_zero_of_no_sems (by decide) r.2⟩) (Cert.EvSmReferenceIdeal.Value.run (F := Ideal) m g)

theorem evSm_value : Cert.algebraic_EvSmKernelIdeal_EvSmReferenceIdeal := fun m g m' g' _ ha =>
  ⟨fun c => Cert.EvSmProj.ref (m ((c.tc : Thread Cert.EvSmKernelIdeal.nD Cert.EvSmKernelIdeal.τ).loc Cert.EvSmKernelIdeal.main_arg0)) (m ((c.tc : Thread Cert.EvSmKernelIdeal.nD Cert.EvSmKernelIdeal.τ).loc Cert.EvSmKernelIdeal.main_arg1)), Cert.EvSmProj.run m g,
    (θ_run Cert.EvSmReferenceIdeal.defs _ _).mono (fun r H c => ⟨(H c).1.trans ((show _ = Cert.EvSmProj.ref (m' ((c.tc : Thread Cert.EvSmReferenceIdeal.nD Cert.EvSmReferenceIdeal.τ).loc Cert.EvSmReferenceIdeal.main_arg0)) (m' ((c.tc : Thread Cert.EvSmReferenceIdeal.nD Cert.EvSmReferenceIdeal.τ).loc Cert.EvSmReferenceIdeal.main_arg1)) from rfl).trans (by
      obtain ⟨h0, h1⟩ := ha c
      exact congr (congrArg Cert.EvSmProj.ref h0) h1)), (H c).2⟩) (Cert.EvSmReferenceIdeal.Value.run (F := Ideal) m' g')⟩

/-! ## EvOut -/

theorem evOut_frame : Cert.quiescent_EvOutKernel := fun m g _ => Cert.EvOutKernel.Gen.frame m g

theorem evOut_frame_ideal : Cert.quiescent_EvOutKernelIdeal := fun m g _ => Cert.EvOutKernelIdeal.Gen.frame m g

theorem evOut_ref_frame : Cert.quiescent_EvOutReferenceIdeal := fun m g _ =>
  (θ_run Cert.EvOutReferenceIdeal.defs _ _).mono (fun r H => ⟨fun c => (H c).2, sem_eq_zero_of_no_sems (by decide) r.2⟩) (Cert.EvOutReferenceIdeal.Value.run (F := Ideal) m g)

theorem evOut_value : Cert.algebraic_EvOutKernelIdeal_EvOutReferenceIdeal := fun m g m' g' _ ha =>
  ⟨fun c => Cert.EvOutProj.ref (m ((c.tc : Thread Cert.EvOutKernelIdeal.nD Cert.EvOutKernelIdeal.τ).loc Cert.EvOutKernelIdeal.main_arg0)) (m ((c.tc : Thread Cert.EvOutKernelIdeal.nD Cert.EvOutKernelIdeal.τ).loc Cert.EvOutKernelIdeal.main_arg1)) (m ((c.tc : Thread Cert.EvOutKernelIdeal.nD Cert.EvOutKernelIdeal.τ).loc Cert.EvOutKernelIdeal.main_arg2)), Cert.EvOutProj.run m g,
    (θ_run Cert.EvOutReferenceIdeal.defs _ _).mono (fun r H c => ⟨(H c).1.trans ((show _ = Cert.EvOutProj.ref (m' ((c.tc : Thread Cert.EvOutReferenceIdeal.nD Cert.EvOutReferenceIdeal.τ).loc Cert.EvOutReferenceIdeal.main_arg0)) (m' ((c.tc : Thread Cert.EvOutReferenceIdeal.nD Cert.EvOutReferenceIdeal.τ).loc Cert.EvOutReferenceIdeal.main_arg1)) (m' ((c.tc : Thread Cert.EvOutReferenceIdeal.nD Cert.EvOutReferenceIdeal.τ).loc Cert.EvOutReferenceIdeal.main_arg2)) from rfl).trans (by
      obtain ⟨h0, h1, h2⟩ := ha c
      exact congr (congr (congrArg Cert.EvOutProj.ref h0) h1) h2)), (H c).2⟩) (Cert.EvOutReferenceIdeal.Value.run (F := Ideal) m' g')⟩

/-! ## Gate -/

theorem gate_frame : Cert.quiescent_GateKernel := fun m g _ => Cert.GateKernel.Gen.frame m g

theorem gate_frame_ideal : Cert.quiescent_GateKernelIdeal := fun m g _ => Cert.GateKernelIdeal.Gen.frame m g

theorem gate_ref_frame : Cert.quiescent_GateReferenceIdeal := fun m g _ =>
  (θ_run Cert.GateReferenceIdeal.defs _ _).mono (fun r H => ⟨fun c => (H c).2, sem_eq_zero_of_no_sems (by decide) r.2⟩) (Cert.GateReferenceIdeal.Value.run (F := Ideal) m g)

theorem gate_value : Cert.algebraic_GateKernelIdeal_GateReferenceIdeal := fun m g m' g' _ ha =>
  ⟨fun c => Cert.GateMix.ref (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)), Cert.GateMix.run m g,
    (θ_run Cert.GateReferenceIdeal.defs _ _).mono (fun r H c => ⟨(H c).1.trans ((show _ = Cert.GateMix.ref (m' ((c.tc : Thread Cert.GateReferenceIdeal.nD Cert.GateReferenceIdeal.τ).loc Cert.GateReferenceIdeal.main_arg0)) (m' ((c.tc : Thread Cert.GateReferenceIdeal.nD Cert.GateReferenceIdeal.τ).loc Cert.GateReferenceIdeal.main_arg2)) (m' ((c.tc : Thread Cert.GateReferenceIdeal.nD Cert.GateReferenceIdeal.τ).loc Cert.GateReferenceIdeal.main_arg3)) from rfl).trans (by
      obtain ⟨h0, h1, h2, h3⟩ := ha c
      exact congr (congr (congrArg Cert.GateMix.ref h0) h2) h3)), (H c).2⟩) (Cert.GateReferenceIdeal.Value.run (F := Ideal) m' g')⟩

/-! ## First -/

theorem first_frame : Cert.quiescent_FirstKernel := fun m g _ => Cert.FirstKernel.Gen.frame m g

theorem first_frame_ideal : Cert.quiescent_FirstKernelIdeal := fun m g _ => Cert.FirstKernelIdeal.Gen.frame m g

theorem first_ref_frame : Cert.quiescent_FirstReferenceIdeal := fun m g _ =>
  (θ_run Cert.FirstReferenceIdeal.defs _ _).mono (fun r H => ⟨fun c => (H c).2.2, sem_eq_zero_of_no_sems (by decide) r.2⟩) (Cert.FirstReferenceIdeal.Value.run (F := Ideal) m g)

theorem first_value : Cert.algebraic_FirstKernelIdeal_FirstReferenceIdeal := fun m g m' g' _ ha =>
  ⟨fun c => Cert.FirstNorm.refH (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)),
    fun c => Cert.FirstNorm.refY (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)),
    Cert.FirstNorm.run m g,
    (θ_run Cert.FirstReferenceIdeal.defs _ _).mono (fun r H c => ⟨(H c).1.trans ((show _ = Cert.FirstNorm.refH (m' ((c.tc : Thread Cert.FirstReferenceIdeal.nD Cert.FirstReferenceIdeal.τ).loc Cert.FirstReferenceIdeal.main_arg0)) (m' ((c.tc : Thread Cert.FirstReferenceIdeal.nD Cert.FirstReferenceIdeal.τ).loc Cert.FirstReferenceIdeal.main_arg1)) from rfl).trans (by
      obtain ⟨h0, h1, -⟩ := ha c
      exact congr (congrArg Cert.FirstNorm.refH h0) h1)),
      (H c).2.1.trans ((show _ = Cert.FirstNorm.refY (m' ((c.tc : Thread Cert.FirstReferenceIdeal.nD Cert.FirstReferenceIdeal.τ).loc Cert.FirstReferenceIdeal.main_arg0)) (m' ((c.tc : Thread Cert.FirstReferenceIdeal.nD Cert.FirstReferenceIdeal.τ).loc Cert.FirstReferenceIdeal.main_arg1)) (m' ((c.tc : Thread Cert.FirstReferenceIdeal.nD Cert.FirstReferenceIdeal.τ).loc Cert.FirstReferenceIdeal.main_arg2)) from rfl).trans (by
      obtain ⟨h0, h1, h2⟩ := ha c
      exact congr (congr (congrArg Cert.FirstNorm.refY h0) h1) h2)), (H c).2.2⟩) (Cert.FirstReferenceIdeal.Value.run (F := Ideal) m' g')⟩

theorem claim : Cert.Claim := ⟨Cert.Kernel.Gen.facts, Cert.KernelIdeal.Gen.facts, Cert.ReferenceIdeal.Gen.facts, Cert.InKernel.Gen.facts, Cert.InKernelIdeal.Gen.facts, Cert.InReferenceIdeal.Gen.facts, Cert.OutKernel.Gen.facts, Cert.OutKernelIdeal.Gen.facts, Cert.OutReferenceIdeal.Gen.facts, Cert.FinalKernel.Gen.facts, Cert.FinalKernelIdeal.Gen.facts, Cert.FinalReferenceIdeal.Gen.facts, Cert.EvInKernel.Gen.facts, Cert.EvInKernelIdeal.Gen.facts, Cert.EvInReferenceIdeal.Gen.facts, Cert.EvSmKernel.Gen.facts, Cert.EvSmKernelIdeal.Gen.facts, Cert.EvSmReferenceIdeal.Gen.facts, Cert.EvOutKernel.Gen.facts, Cert.EvOutKernelIdeal.Gen.facts, Cert.EvOutReferenceIdeal.Gen.facts, Cert.GateKernel.Gen.facts, Cert.GateKernelIdeal.Gen.facts, Cert.GateReferenceIdeal.Gen.facts, Cert.FirstKernel.Gen.facts, Cert.FirstKernelIdeal.Gen.facts, Cert.FirstReferenceIdeal.Gen.facts, Cert.Pre_group_range.Gen.facts, Cert.Pre_routed.Gen.facts,
  experts_frame, experts_frame_ideal, experts_frame_routed, experts_ref_frame, experts_ref_frame_routed, in_frame, in_frame_ideal, in_ref_frame, out_frame, out_frame_ideal, out_ref_frame, final_frame, final_frame_ideal, final_ref_frame, evIn_frame, evIn_frame_ideal, evIn_ref_frame, evSm_frame, evSm_frame_ideal, evSm_ref_frame, evOut_frame, evOut_frame_ideal, evOut_ref_frame, gate_frame, gate_frame_ideal, gate_ref_frame, first_frame, first_frame_ideal, first_ref_frame,
  trivial, experts_value, trivial, in_value, trivial, out_value, trivial, final_value, trivial, evIn_value, trivial, evSm_value, trivial, evOut_value, trivial, gate_value, trivial, first_value⟩

end Cert.Proof

end
